-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_t" .f32 0x40200000#32 ((33554432 / 13421773 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18_1)) (v1 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_1) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  bcast_S_S64x4096 : S_.BroadcastsInDim S64x4096 (![] : Fin 0 → Fin S64x4096.rank)

variable [Facts]

def fn {F : FTy → Type} [FloatOps F] (main_arg0 : FVec F S4x4096x4096 .f32) (main_arg1 : FVec F S64x4096 .f32) : IVec S4x4096x4096 1 × IVec S64x4096 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  (main_v2, main_v5)
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S_ : Shape := ⟨0, ![]⟩
abbrev S1 : Shape := ⟨1, ![1]⟩
abbrev S2 : Shape := ⟨1, ![2]⟩
abbrev S1x1 : Shape := ⟨2, ![1, 1]⟩
abbrev S16384x64 : Shape := ⟨2, ![16384, 64]⟩
abbrev S16384 : Shape := ⟨1, ![16384]⟩
abbrev S1024x4096 : Shape := ⟨2, ![1024, 4096]⟩
abbrev S1024x64 : Shape := ⟨2, ![1024, 64]⟩
abbrev S1024 : Shape := ⟨1, ![1024]⟩
abbrev S1024x1 : Shape := ⟨2, ![1024, 1]⟩
abbrev S64x128 : Shape := ⟨2, ![64, 128]⟩
abbrev S1024x128 : Shape := ⟨2, ![1024, 128]⟩
abbrev S1x255 : Shape := ⟨2, ![1, 255]⟩
abbrev S1024x255 : Shape := ⟨2, ![1024, 255]⟩

abbrev nBuf : Space → Nat
  | .hbm => 290
  | .vmem => 9
  | .smem => 0
  | _ => 0

abbrev hbmTy0_0 (i : Nat) : BufTy := match i % 128 with
  | 0 => ⟨S4x4096x4096, .f32⟩
  | 1 => ⟨S64x4096, .f32⟩
  | 2 => ⟨S16384x4096, .f32⟩
  | 3 => ⟨S4096x64, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S16384x64, .i64⟩
  | 25 => ⟨S16384x64, .i64⟩
  | 26 => ⟨S_, .i64⟩
  | 27 => ⟨S16384x64, .i64⟩
  | 28 => ⟨S16384x64, .i64⟩
  | 29 => ⟨S_, .i64⟩
  | 30 => ⟨S16384x64, .i64⟩
  | 31 => ⟨S16384x64, .i64⟩
  | 32 => ⟨S16384x64, .i64⟩
  | 33 => ⟨S_, .i64⟩
  | 34 => ⟨S16384x64, .i64⟩
  | 35 => ⟨S16384x64, .i64⟩
  | 36 => ⟨S16384x64, .i32⟩
  | 37 => ⟨S16384x64, .i32⟩
  | 38 => ⟨S_, .i32⟩
  | 39 => ⟨S_, .i32⟩
  | 40 => ⟨S_, .i32⟩
  | 41 => ⟨S16384x64, .i32⟩
  | 42 => ⟨S16384x64, .i32⟩
  | 43 => ⟨S16384x64, .i32⟩
  | 44 => ⟨S16384x64, .i32⟩
  | 45 => ⟨S16384x64, .i32⟩
  | 46 => ⟨S_, .i32⟩
  | 47 => ⟨S16384x64, .i32⟩
  | 48 => ⟨S16384x64, .i32⟩
  | 49 => ⟨S_, .i32⟩
  | 50 => ⟨S16384x64, .i32⟩
  | 51 => ⟨S16384x64, .i32⟩
  | 52 => ⟨S16384x64, .i32⟩
  | 53 => ⟨S16384x64, .i32⟩
  | 54 => ⟨S16384x64, .i32⟩
  | 55 => ⟨S_, .i32⟩
  | 56 => ⟨S16384x64, .i32⟩
  | 57 => ⟨S16384x64, .i32⟩
  | 58 => ⟨S_, .i32⟩
  | 59 => ⟨S16384x64, .i32⟩
  | 60 => ⟨S16384x64, .i32⟩
  | 61 => ⟨S16384x64, .i32⟩
  | 62 => ⟨S16384x64, .i32⟩
  | 63 => ⟨S16384x64, .i32⟩
  | 64 => ⟨S_, .i32⟩
  | 65 => ⟨S16384x64, .i32⟩
  | 66 => ⟨S16384x64, .i32⟩
  | 67 => ⟨S_, .i32⟩
  | 68 => ⟨S16384x64, .i32⟩
  | 69 => ⟨S16384x64, .i32⟩
  | 70 => ⟨S16384x64, .i32⟩
  | 71 => ⟨S16384x64, .i32⟩
  | 72 => ⟨S16384x64, .i32⟩
  | 73 => ⟨S_, .i32⟩
  | 74 => ⟨S16384x64, .i32⟩
  | 75 => ⟨S16384x64, .i32⟩
  | 76 => ⟨S_, .i32⟩
  | 77 => ⟨S16384x64, .i32⟩
  | 78 => ⟨S16384x64, .i32⟩
  | 79 => ⟨S16384x64, .i32⟩
  | 80 => ⟨S16384x64, .i32⟩
  | 81 => ⟨S16384x64, .i32⟩
  | 82 => ⟨S16384x64, .i32⟩
  | 83 => ⟨S16384x64, .i32⟩
  | 84 => ⟨S16384x64, .i32⟩
  | 85 => ⟨S_, .i32⟩
  | 86 => ⟨S16384x64, .i32⟩
  | 87 => ⟨S16384x64, .i32⟩
  | 88 => ⟨S16384x64, .i32⟩
  | 89 => ⟨S_, .i32⟩
  | 90 => ⟨S16384x64, .i32⟩
  | 91 => ⟨S16384x64, .i32⟩
  | 92 => ⟨S_, .i32⟩
  | 93 => ⟨S16384x64, .i32⟩
  | 94 => ⟨S16384x64, .i32⟩
  | 95 => ⟨S16384x64, .i32⟩
  | 96 => ⟨S16384x64, .i32⟩
  | 97 => ⟨S16384x64, .i32⟩
  | 98 => ⟨S_, .i32⟩
  | 99 => ⟨S16384x64, .i32⟩
  | 100 => ⟨S16384x64, .i32⟩
  | 101 => ⟨S_, .i32⟩
  | 102 => ⟨S16384x64, .i32⟩
  | 103 => ⟨S16384x64, .i32⟩
  | 104 => ⟨S16384x64, .i32⟩
  | 105 => ⟨S16384x64, .i32⟩
  | 106 => ⟨S16384x64, .i32⟩
  | 107 => ⟨S_, .i32⟩
  | 108 => ⟨S16384x64, .i32⟩
  | 109 => ⟨S16384x64, .i32⟩
  | 110 => ⟨S_, .i32⟩
  | 111 => ⟨S16384x64, .i32⟩
  | 112 => ⟨S16384x64, .i32⟩
  | 113 => ⟨S16384x64, .i32⟩
  | 114 => ⟨S16384x64, .i32⟩
  | 115 => ⟨S16384x64, .i32⟩
  | 116 => ⟨S_, .i32⟩
  | 117 => ⟨S16384x64, .i32⟩
  | 118 => ⟨S16384x64, .i32⟩
  | 119 => ⟨S_, .i32⟩
  | 120 => ⟨S16384x64, .i32⟩
  | 121 => ⟨S16384x64, .i32⟩
  | 122 => ⟨S16384x64, .i32⟩
  | 123 => ⟨S16384x64, .i32⟩
  | 124 => ⟨S16384x64, .i32⟩
  | 125 => ⟨S16384x64, .i32⟩
  | 126 => ⟨S16384x64, .i32⟩
  | 127 => ⟨S16384x64, .i32⟩
  | _ => ⟨S4x4096x4096, .f32⟩

abbrev hbmTy0_1 (i : Nat) : BufTy := match i % 128 with
  | 0 => ⟨S_, .i32⟩
  | 1 => ⟨S16384x64, .i32⟩
  | 2 => ⟨S16384x64, .i32⟩
  | 3 => ⟨S16384x64, .i32⟩
  | 4 => ⟨S_, .i32⟩
  | 5 => ⟨S16384x64, .i32⟩
  | 6 => ⟨S16384x64, .i32⟩
  | 7 => ⟨S_, .i32⟩
  | 8 => ⟨S16384x64, .i32⟩
  | 9 => ⟨S16384x64, .i32⟩
  | 10 => ⟨S16384x64, .i32⟩
  | 11 => ⟨S16384x64, .i32⟩
  | 12 => ⟨S16384x64, .i32⟩
  | 13 => ⟨S_, .i32⟩
  | 14 => ⟨S16384x64, .i32⟩
  | 15 => ⟨S16384x64, .i32⟩
  | 16 => ⟨S_, .i32⟩
  | 17 => ⟨S16384x64, .i32⟩
  | 18 => ⟨S16384x64, .i32⟩
  | 19 => ⟨S16384x64, .i32⟩
  | 20 => ⟨S16384x64, .i32⟩
  | 21 => ⟨S16384x64, .i32⟩
  | 22 => ⟨S_, .i32⟩
  | 23 => ⟨S16384x64, .i32⟩
  | 24 => ⟨S16384x64, .i32⟩
  | 25 => ⟨S_, .i32⟩
  | 26 => ⟨S16384x64, .i32⟩
  | 27 => ⟨S16384x64, .i32⟩
  | 28 => ⟨S16384x64, .i32⟩
  | 29 => ⟨S16384x64, .i32⟩
  | 30 => ⟨S16384x64, .i32⟩
  | 31 => ⟨S_, .i32⟩
  | 32 => ⟨S16384x64, .i32⟩
  | 33 => ⟨S16384x64, .i32⟩
  | 34 => ⟨S_, .i32⟩
  | 35 => ⟨S16384x64, .i32⟩
  | 36 => ⟨S16384x64, .i32⟩
  | 37 => ⟨S16384x64, .i32⟩
  | 38 => ⟨S16384x64, .i32⟩
  | 39 => ⟨S16384x64, .i32⟩
  | 40 => ⟨S16384x64, .i32⟩
  | 41 => ⟨S16384x64, .i32⟩
  | 42 => ⟨S16384x64, .i32⟩
  | 43 => ⟨S_, .i32⟩
  | 44 => ⟨S16384x64, .i32⟩
  | 45 => ⟨S16384x64, .i32⟩
  | 46 => ⟨S16384x64, .i32⟩
  | 47 => ⟨S_, .i32⟩
  | 48 => ⟨S16384x64, .i32⟩
  | 49 => ⟨S16384x64, .i32⟩
  | 50 => ⟨S_, .i32⟩
  | 51 => ⟨S16384x64, .i32⟩
  | 52 => ⟨S16384x64, .i32⟩
  | 53 => ⟨S16384x64, .i32⟩
  | 54 => ⟨S16384x64, .i32⟩
  | 55 => ⟨S16384x64, .i32⟩
  | 56 => ⟨S_, .i32⟩
  | 57 => ⟨S16384x64, .i32⟩
  | 58 => ⟨S16384x64, .i32⟩
  | 59 => ⟨S_, .i32⟩
  | 60 => ⟨S16384x64, .i32⟩
  | 61 => ⟨S16384x64, .i32⟩
  | 62 => ⟨S16384x64, .i32⟩
  | 63 => ⟨S16384x64, .i32⟩
  | 64 => ⟨S16384x64, .i32⟩
  | 65 => ⟨S_, .i32⟩
  | 66 => ⟨S16384x64, .i32⟩
  | 67 => ⟨S16384x64, .i32⟩
  | 68 => ⟨S_, .i32⟩
  | 69 => ⟨S16384x64, .i32⟩
  | 70 => ⟨S16384x64, .i32⟩
  | 71 => ⟨S16384x64, .i32⟩
  | 72 => ⟨S16384x64, .i32⟩
  | 73 => ⟨S16384x64, .i32⟩
  | 74 => ⟨S_, .i32⟩
  | 75 => ⟨S16384x64, .i32⟩
  | 76 => ⟨S16384x64, .i32⟩
  | 77 => ⟨S_, .i32⟩
  | 78 => ⟨S16384x64, .i32⟩
  | 79 => ⟨S16384x64, .i32⟩
  | 80 => ⟨S16384x64, .i32⟩
  | 81 => ⟨S16384x64, .i32⟩
  | 82 => ⟨S16384x64, .i32⟩
  | 83 => ⟨S16384x64, .i32⟩
  | 84 => ⟨S16384x64, .i32⟩
  | 85 => ⟨S16384x64, .i32⟩
  | 86 => ⟨S_, .i32⟩
  | 87 => ⟨S16384x64, .i32⟩
  | 88 => ⟨S16384x64, .i32⟩
  | 89 => ⟨S16384x64, .i32⟩
  | 90 => ⟨S_, .i32⟩
  | 91 => ⟨S16384x64, .i32⟩
  | 92 => ⟨S16384x64, .i32⟩
  | 93 => ⟨S_, .i32⟩
  | 94 => ⟨S16384x64, .i32⟩
  | 95 => ⟨S16384x64, .i32⟩
  | 96 => ⟨S16384x64, .i32⟩
  | 97 => ⟨S16384x64, .i32⟩
  | 98 => ⟨S16384x64, .i32⟩
  | 99 => ⟨S_, .i32⟩
  | 100 => ⟨S16384x64, .i32⟩
  | 101 => ⟨S16384x64, .i32⟩
  | 102 => ⟨S_, .i32⟩
  | 103 => ⟨S16384x64, .i32⟩
  | 104 => ⟨S16384x64, .i32⟩
  | 105 => ⟨S16384x64, .i32⟩
  | 106 => ⟨S16384x64, .i32⟩
  | 107 => ⟨S16384x64, .i32⟩
  | 108 => ⟨S_, .i32⟩
  | 109 => ⟨S16384x64, .i32⟩
  | 110 => ⟨S16384x64, .i32⟩
  | 111 => ⟨S_, .i32⟩
  | 112 => ⟨S16384x64, .i32⟩
  | 113 => ⟨S16384x64, .i32⟩
  | 114 => ⟨S16384x64, .i32⟩
  | 115 => ⟨S16384x64, .i32⟩
  | 116 => ⟨S16384x64, .i32⟩
  | 117 => ⟨S_, .i32⟩
  | 118 => ⟨S16384x64, .i32⟩
  | 119 => ⟨S16384x64, .i32⟩
  | 120 => ⟨S_, .i32⟩
  | 121 => ⟨S16384x64, .i32⟩
  | 122 => ⟨S16384x64, .i32⟩
  | 123 => ⟨S16384x64, .i32⟩
  | 124 => ⟨S16384x64, .i32⟩
  | 125 => ⟨S16384x64, .i32⟩
  | 126 => ⟨S16384x64, .i32⟩
  | 127 => ⟨S16384x64, .i32⟩
  | _ => ⟨S4x4096x4096, .f32⟩

abbrev hbmTy0_2 (i : Nat) : BufTy := match i % 128 with
  | 0 => ⟨S16384x64, .i32⟩
  | 1 => ⟨S_, .i32⟩
  | 2 => ⟨S16384x64, .i32⟩
  | 3 => ⟨S16384x64, .i32⟩
  | 4 => ⟨S16384x64, .i32⟩
  | 5 => ⟨S_, .i32⟩
  | 6 => ⟨S16384x64, .i32⟩
  | 7 => ⟨S16384x64, .i32⟩
  | 8 => ⟨S_, .i32⟩
  | 9 => ⟨S16384x64, .i32⟩
  | 10 => ⟨S16384x64, .i32⟩
  | 11 => ⟨S16384x64, .f32⟩
  | 12 => ⟨S_, .f32⟩
  | 13 => ⟨S16384x64, .f32⟩
  | 14 => ⟨S16384x64, .f32⟩
  | 15 => ⟨S1x1, .f32⟩
  | 16 => ⟨S16384x64, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S_, .f32⟩
  | 23 => ⟨S16384x64, .f32⟩
  | 24 => ⟨S16384x64, .f32⟩
  | 25 => ⟨S16384x64, .f32⟩
  | 26 => ⟨S16384x64, .f32⟩
  | 27 => ⟨S_, .f32⟩
  | 28 => ⟨S16384x64, .f32⟩
  | 29 => ⟨S16384x64, .f32⟩
  | 30 => ⟨S16384x64, .f32⟩
  | 31 => ⟨S16384x64, .f32⟩
  | 32 => ⟨S16384x64, .f32⟩
  | 33 => ⟨S16384, .i32⟩
  | _ => ⟨S4x4096x4096, .f32⟩

abbrev hbmTy (i : Nat) : BufTy := match i / 128 with
  | 0 => hbmTy0_0 i
  | 1 => hbmTy0_1 i
  | 2 => hbmTy0_2 i
  | _ => ⟨S4x4096x4096, .f32⟩

abbrev bufTy : (tb : Table) → Fin (tcTables nBuf tb) → BufTy
  | .hbm, ⟨i, _⟩ => hbmTy i
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024, .i32⟩
  | .local _ .vmem, ⟨8, _⟩ => ⟨S1024, .i32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_1 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v19_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v19_1 : Ref sig .tc := ⟨.hbm, 259, rfl⟩
abbrev main_call0_v20 : Ref sig .tc := ⟨.hbm, 260, rfl⟩
abbrev main_call0_c_2 : Ref sig .tc := ⟨.hbm, 261, rfl⟩
abbrev main_call0_v21 : Ref sig .tc := ⟨.hbm, 262, rfl⟩
abbrev main_call0_v22 : Ref sig .tc := ⟨.hbm, 263, rfl⟩
abbrev main_call0_c_3 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_cst : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_call0_v30 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_v9 : Ref sig .tc := ⟨.hbm, 277, rfl⟩
abbrev main_cst_3 : Ref sig .tc := ⟨.hbm, 278, rfl⟩
abbrev main_v10 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_cst_4 : Ref sig .tc := ⟨.hbm, 283, rfl⟩
abbrev main_v14 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18_0 : Ref sig .tc := ⟨.hbm, 288, rfl⟩
abbrev main_v18_1 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_t" => some ((33554432 / 13421773 : ℝ) : EReal)
  | _ => none
-- ==== ReferenceIdeal.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S16384x64 : Shape := ⟨2, ![16384, 64]⟩
abbrev S_ : Shape := ⟨0, ![]⟩
abbrev S1 : Shape := ⟨1, ![1]⟩
abbrev S2 : Shape := ⟨1, ![2]⟩
abbrev S1x1 : Shape := ⟨2, ![1, 1]⟩
abbrev S16384 : Shape := ⟨1, ![16384]⟩
abbrev S16384x1 : Shape := ⟨2, ![16384, 1]⟩
abbrev S1x64 : Shape := ⟨2, ![1, 64]⟩

abbrev nBuf : Space → Nat
  | .hbm => 325
  | .vmem => 0
  | .smem => 0
  | _ => 0

abbrev hbmTy0_0 (i : Nat) : BufTy := match i % 128 with
  | 0 => ⟨S4x4096x4096, .f32⟩
  | 1 => ⟨S64x4096, .f32⟩
  | 2 => ⟨S16384x4096, .f32⟩
  | 3 => ⟨S4096x64, .f32⟩
  | 4 => ⟨S16384x64, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S_, .f32⟩
  | 19 => ⟨S1x1, .f32⟩
  | 20 => ⟨S1x1, .f32⟩
  | 21 => ⟨S1, .i32⟩
  | 22 => ⟨S_, .i32⟩
  | 23 => ⟨S1, .i32⟩
  | 24 => ⟨S_, .i32⟩
  | 25 => ⟨S16384x64, .i64⟩
  | 26 => ⟨S16384x64, .i64⟩
  | 27 => ⟨S_, .i64⟩
  | 28 => ⟨S16384x64, .i64⟩
  | 29 => ⟨S16384x64, .i64⟩
  | 30 => ⟨S_, .i64⟩
  | 31 => ⟨S16384x64, .i64⟩
  | 32 => ⟨S16384x64, .i64⟩
  | 33 => ⟨S16384x64, .i64⟩
  | 34 => ⟨S_, .i64⟩
  | 35 => ⟨S16384x64, .i64⟩
  | 36 => ⟨S16384x64, .i64⟩
  | 37 => ⟨S16384x64, .i32⟩
  | 38 => ⟨S16384x64, .i32⟩
  | 39 => ⟨S_, .i32⟩
  | 40 => ⟨S_, .i32⟩
  | 41 => ⟨S_, .i32⟩
  | 42 => ⟨S16384x64, .i32⟩
  | 43 => ⟨S16384x64, .i32⟩
  | 44 => ⟨S16384x64, .i32⟩
  | 45 => ⟨S16384x64, .i32⟩
  | 46 => ⟨S16384x64, .i32⟩
  | 47 => ⟨S_, .i32⟩
  | 48 => ⟨S16384x64, .i32⟩
  | 49 => ⟨S16384x64, .i32⟩
  | 50 => ⟨S_, .i32⟩
  | 51 => ⟨S16384x64, .i32⟩
  | 52 => ⟨S16384x64, .i32⟩
  | 53 => ⟨S16384x64, .i32⟩
  | 54 => ⟨S16384x64, .i32⟩
  | 55 => ⟨S16384x64, .i32⟩
  | 56 => ⟨S_, .i32⟩
  | 57 => ⟨S16384x64, .i32⟩
  | 58 => ⟨S16384x64, .i32⟩
  | 59 => ⟨S_, .i32⟩
  | 60 => ⟨S16384x64, .i32⟩
  | 61 => ⟨S16384x64, .i32⟩
  | 62 => ⟨S16384x64, .i32⟩
  | 63 => ⟨S16384x64, .i32⟩
  | 64 => ⟨S16384x64, .i32⟩
  | 65 => ⟨S_, .i32⟩
  | 66 => ⟨S16384x64, .i32⟩
  | 67 => ⟨S16384x64, .i32⟩
  | 68 => ⟨S_, .i32⟩
  | 69 => ⟨S16384x64, .i32⟩
  | 70 => ⟨S16384x64, .i32⟩
  | 71 => ⟨S16384x64, .i32⟩
  | 72 => ⟨S16384x64, .i32⟩
  | 73 => ⟨S16384x64, .i32⟩
  | 74 => ⟨S_, .i32⟩
  | 75 => ⟨S16384x64, .i32⟩
  | 76 => ⟨S16384x64, .i32⟩
  | 77 => ⟨S_, .i32⟩
  | 78 => ⟨S16384x64, .i32⟩
  | 79 => ⟨S16384x64, .i32⟩
  | 80 => ⟨S16384x64, .i32⟩
  | 81 => ⟨S16384x64, .i32⟩
  | 82 => ⟨S16384x64, .i32⟩
  | 83 => ⟨S16384x64, .i32⟩
  | 84 => ⟨S16384x64, .i32⟩
  | 85 => ⟨S16384x64, .i32⟩
  | 86 => ⟨S_, .i32⟩
  | 87 => ⟨S16384x64, .i32⟩
  | 88 => ⟨S16384x64, .i32⟩
  | 89 => ⟨S16384x64, .i32⟩
  | 90 => ⟨S_, .i32⟩
  | 91 => ⟨S16384x64, .i32⟩
  | 92 => ⟨S16384x64, .i32⟩
  | 93 => ⟨S_, .i32⟩
  | 94 => ⟨S16384x64, .i32⟩
  | 95 => ⟨S16384x64, .i32⟩
  | 96 => ⟨S16384x64, .i32⟩
  | 97 => ⟨S16384x64, .i32⟩
  | 98 => ⟨S16384x64, .i32⟩
  | 99 => ⟨S_, .i32⟩
  | 100 => ⟨S16384x64, .i32⟩
  | 101 => ⟨S16384x64, .i32⟩
  | 102 => ⟨S_, .i32⟩
  | 103 => ⟨S16384x64, .i32⟩
  | 104 => ⟨S16384x64, .i32⟩
  | 105 => ⟨S16384x64, .i32⟩
  | 106 => ⟨S16384x64, .i32⟩
  | 107 => ⟨S16384x64, .i32⟩
  | 108 => ⟨S_, .i32⟩
  | 109 => ⟨S16384x64, .i32⟩
  | 110 => ⟨S16384x64, .i32⟩
  | 111 => ⟨S_, .i32⟩
  | 112 => ⟨S16384x64, .i32⟩
  | 113 => ⟨S16384x64, .i32⟩
  | 114 => ⟨S16384x64, .i32⟩
  | 115 => ⟨S16384x64, .i32⟩
  | 116 => ⟨S16384x64, .i32⟩
  | 117 => ⟨S_, .i32⟩
  | 118 => ⟨S16384x64, .i32⟩
  | 119 => ⟨S16384x64, .i32⟩
  | 120 => ⟨S_, .i32⟩
  | 121 => ⟨S16384x64, .i32⟩
  | 122 => ⟨S16384x64, .i32⟩
  | 123 => ⟨S16384x64, .i32⟩
  | 124 => ⟨S16384x64, .i32⟩
  | 125 => ⟨S16384x64, .i32⟩
  | 126 => ⟨S16384x64, .i32⟩
  | 127 => ⟨S16384x64, .i32⟩
  | _ => ⟨S4x4096x4096, .f32⟩

abbrev hbmTy0_1 (i : Nat) : BufTy := match i % 128 with
  | 0 => ⟨S16384x64, .i32⟩
  | 1 => ⟨S_, .i32⟩
  | 2 => ⟨S16384x64, .i32⟩
  | 3 => ⟨S16384x64, .i32⟩
  | 4 => ⟨S16384x64, .i32⟩
  | 5 => ⟨S_, .i32⟩
  | 6 => ⟨S16384x64, .i32⟩
  | 7 => ⟨S16384x64, .i32⟩
  | 8 => ⟨S_, .i32⟩
  | 9 => ⟨S16384x64, .i32⟩
  | 10 => ⟨S16384x64, .i32⟩
  | 11 => ⟨S16384x64, .i32⟩
  | 12 => ⟨S16384x64, .i32⟩
  | 13 => ⟨S16384x64, .i32⟩
  | 14 => ⟨S_, .i32⟩
  | 15 => ⟨S16384x64, .i32⟩
  | 16 => ⟨S16384x64, .i32⟩
  | 17 => ⟨S_, .i32⟩
  | 18 => ⟨S16384x64, .i32⟩
  | 19 => ⟨S16384x64, .i32⟩
  | 20 => ⟨S16384x64, .i32⟩
  | 21 => ⟨S16384x64, .i32⟩
  | 22 => ⟨S16384x64, .i32⟩
  | 23 => ⟨S_, .i32⟩
  | 24 => ⟨S16384x64, .i32⟩
  | 25 => ⟨S16384x64, .i32⟩
  | 26 => ⟨S_, .i32⟩
  | 27 => ⟨S16384x64, .i32⟩
  | 28 => ⟨S16384x64, .i32⟩
  | 29 => ⟨S16384x64, .i32⟩
  | 30 => ⟨S16384x64, .i32⟩
  | 31 => ⟨S16384x64, .i32⟩
  | 32 => ⟨S_, .i32⟩
  | 33 => ⟨S16384x64, .i32⟩
  | 34 => ⟨S16384x64, .i32⟩
  | 35 => ⟨S_, .i32⟩
  | 36 => ⟨S16384x64, .i32⟩
  | 37 => ⟨S16384x64, .i32⟩
  | 38 => ⟨S16384x64, .i32⟩
  | 39 => ⟨S16384x64, .i32⟩
  | 40 => ⟨S16384x64, .i32⟩
  | 41 => ⟨S16384x64, .i32⟩
  | 42 => ⟨S16384x64, .i32⟩
  | 43 => ⟨S16384x64, .i32⟩
  | 44 => ⟨S_, .i32⟩
  | 45 => ⟨S16384x64, .i32⟩
  | 46 => ⟨S16384x64, .i32⟩
  | 47 => ⟨S16384x64, .i32⟩
  | 48 => ⟨S_, .i32⟩
  | 49 => ⟨S16384x64, .i32⟩
  | 50 => ⟨S16384x64, .i32⟩
  | 51 => ⟨S_, .i32⟩
  | 52 => ⟨S16384x64, .i32⟩
  | 53 => ⟨S16384x64, .i32⟩
  | 54 => ⟨S16384x64, .i32⟩
  | 55 => ⟨S16384x64, .i32⟩
  | 56 => ⟨S16384x64, .i32⟩
  | 57 => ⟨S_, .i32⟩
  | 58 => ⟨S16384x64, .i32⟩
  | 59 => ⟨S16384x64, .i32⟩
  | 60 => ⟨S_, .i32⟩
  | 61 => ⟨S16384x64, .i32⟩
  | 62 => ⟨S16384x64, .i32⟩
  | 63 => ⟨S16384x64, .i32⟩
  | 64 => ⟨S16384x64, .i32⟩
  | 65 => ⟨S16384x64, .i32⟩
  | 66 => ⟨S_, .i32⟩
  | 67 => ⟨S16384x64, .i32⟩
  | 68 => ⟨S16384x64, .i32⟩
  | 69 => ⟨S_, .i32⟩
  | 70 => ⟨S16384x64, .i32⟩
  | 71 => ⟨S16384x64, .i32⟩
  | 72 => ⟨S16384x64, .i32⟩
  | 73 => ⟨S16384x64, .i32⟩
  | 74 => ⟨S16384x64, .i32⟩
  | 75 => ⟨S_, .i32⟩
  | 76 => ⟨S16384x64, .i32⟩
  | 77 => ⟨S16384x64, .i32⟩
  | 78 => ⟨S_, .i32⟩
  | 79 => ⟨S16384x64, .i32⟩
  | 80 => ⟨S16384x64, .i32⟩
  | 81 => ⟨S16384x64, .i32⟩
  | 82 => ⟨S16384x64, .i32⟩
  | 83 => ⟨S16384x64, .i32⟩
  | 84 => ⟨S16384x64, .i32⟩
  | 85 => ⟨S16384x64, .i32⟩
  | 86 => ⟨S16384x64, .i32⟩
  | 87 => ⟨S_, .i32⟩
  | 88 => ⟨S16384x64, .i32⟩
  | 89 => ⟨S16384x64, .i32⟩
  | 90 => ⟨S16384x64, .i32⟩
  | 91 => ⟨S_, .i32⟩
  | 92 => ⟨S16384x64, .i32⟩
  | 93 => ⟨S16384x64, .i32⟩
  | 94 => ⟨S_, .i32⟩
  | 95 => ⟨S16384x64, .i32⟩
  | 96 => ⟨S16384x64, .i32⟩
  | 97 => ⟨S16384x64, .i32⟩
  | 98 => ⟨S16384x64, .i32⟩
  | 99 => ⟨S16384x64, .i32⟩
  | 100 => ⟨S_, .i32⟩
  | 101 => ⟨S16384x64, .i32⟩
  | 102 => ⟨S16384x64, .i32⟩
  | 103 => ⟨S_, .i32⟩
  | 104 => ⟨S16384x64, .i32⟩
  | 105 => ⟨S16384x64, .i32⟩
  | 106 => ⟨S16384x64, .i32⟩
  | 107 => ⟨S16384x64, .i32⟩
  | 108 => ⟨S16384x64, .i32⟩
  | 109 => ⟨S_, .i32⟩
  | 110 => ⟨S16384x64, .i32⟩
  | 111 => ⟨S16384x64, .i32⟩
  | 112 => ⟨S_, .i32⟩
  | 113 => ⟨S16384x64, .i32⟩
  | 114 => ⟨S16384x64, .i32⟩
  | 115 => ⟨S16384x64, .i32⟩
  | 116 => ⟨S16384x64, .i32⟩
  | 117 => ⟨S16384x64, .i32⟩
  | 118 => ⟨S_, .i32⟩
  | 119 => ⟨S16384x64, .i32⟩
  | 120 => ⟨S16384x64, .i32⟩
  | 121 => ⟨S_, .i32⟩
  | 122 => ⟨S16384x64, .i32⟩
  | 123 => ⟨S16384x64, .i32⟩
  | 124 => ⟨S16384x64, .i32⟩
  | 125 => ⟨S16384x64, .i32⟩
  | 126 => ⟨S16384x64, .i32⟩
  | 127 => ⟨S16384x64, .i32⟩
  | _ => ⟨S4x4096x4096, .f32⟩

abbrev hbmTy0_2 (i : Nat) : BufTy := match i % 128 with
  | 0 => ⟨S16384x64, .i32⟩
  | 1 => ⟨S16384x64, .i32⟩
  | 2 => ⟨S_, .i32⟩
  | 3 => ⟨S16384x64, .i32⟩
  | 4 => ⟨S16384x64, .i32⟩
  | 5 => ⟨S16384x64, .i32⟩
  | 6 => ⟨S_, .i32⟩
  | 7 => ⟨S16384x64, .i32⟩
  | 8 => ⟨S16384x64, .i32⟩
  | 9 => ⟨S_, .i32⟩
  | 10 => ⟨S16384x64, .i32⟩
  | 11 => ⟨S16384x64, .i32⟩
  | 12 => ⟨S16384x64, .f32⟩
  | 13 => ⟨S_, .f32⟩
  | 14 => ⟨S16384x64, .f32⟩
  | 15 => ⟨S16384x64, .f32⟩
  | 16 => ⟨S1x1, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S16384x64, .f32⟩
  | 23 => ⟨S_, .f32⟩
  | 24 => ⟨S16384x64, .f32⟩
  | 25 => ⟨S16384x64, .f32⟩
  | 26 => ⟨S16384x64, .f32⟩
  | 27 => ⟨S16384x64, .f32⟩
  | 28 => ⟨S_, .f32⟩
  | 29 => ⟨S16384x64, .f32⟩
  | 30 => ⟨S16384x64, .f32⟩
  | 31 => ⟨S16384x64, .f32⟩
  | 32 => ⟨S16384x64, .f32⟩
  | 33 => ⟨S16384x64, .f32⟩
  | 34 => ⟨S_, .f32⟩
  | 35 => ⟨S16384x64, .f32⟩
  | 36 => ⟨S16384x64, .f32⟩
  | 37 => ⟨S_, .f32⟩
  | 38 => ⟨S16384, .f32⟩
  | 39 => ⟨S_, .f32⟩
  | 40 => ⟨S16384, .f32⟩
  | 41 => ⟨S16384, .f32⟩
  | 42 => ⟨S16384x1, .f32⟩
  | 43 => ⟨S16384x64, .f32⟩
  | 44 => ⟨S16384x64, .f32⟩
  | 45 => ⟨S16384x64, .f32⟩
  | 46 => ⟨S_, .f32⟩
  | 47 => ⟨S16384, .f32⟩
  | 48 => ⟨S16384x1, .f32⟩
  | 49 => ⟨S16384x64, .f32⟩
  | 50 => ⟨S16384x64, .f32⟩
  | 51 => ⟨S16384x64, .i32⟩
  | 52 => ⟨S_, .f32⟩
  | 53 => ⟨S_, .i32⟩
  | 54 => ⟨S16384, .f32⟩
  | 55 => ⟨S16384, .i32⟩
  | 56 => ⟨S16384x1, .i32⟩
  | 57 => ⟨S1x64, .i32⟩
  | 58 => ⟨S16384x64, .i32⟩
  | 59 => ⟨S16384x64, .i32⟩
  | 60 => ⟨S16384x64, .i1⟩
  | 61 => ⟨S16384x64, .f32⟩
  | 62 => ⟨S16384x64, .f32⟩
  | 63 => ⟨S16384x64, .f32⟩
  | 64 => ⟨S16384x64, .i32⟩
  | 65 => ⟨S_, .f32⟩
  | 66 => ⟨S_, .i32⟩
  | 67 => ⟨S16384, .f32⟩
  | 68 => ⟨S16384, .i32⟩
  | _ => ⟨S4x4096x4096, .f32⟩

abbrev hbmTy (i : Nat) : BufTy := match i / 128 with
  | 0 => hbmTy0_0 i
  | 1 => hbmTy0_1 i
  | 2 => hbmTy0_2 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_c : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_1 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v19_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v19_1 : Ref sig .tc := ⟨.hbm, 260, rfl⟩
abbrev main_call0_v20 : Ref sig .tc := ⟨.hbm, 261, rfl⟩
abbrev main_call0_c_2 : Ref sig .tc := ⟨.hbm, 262, rfl⟩
abbrev main_call0_v21 : Ref sig .tc := ⟨.hbm, 263, rfl⟩
abbrev main_call0_v22 : Ref sig .tc := ⟨.hbm, 264, rfl⟩
abbrev main_call0_c_3 : Ref sig .tc := ⟨.hbm, 265, rfl⟩
abbrev main_call0_v23 : Ref sig .tc := ⟨.hbm, 266, rfl⟩
abbrev main_call0_v24 : Ref sig .tc := ⟨.hbm, 267, rfl⟩
abbrev main_call0_v25 : Ref sig .tc := ⟨.hbm, 268, rfl⟩
abbrev main_call0_cst : Ref sig .tc := ⟨.hbm, 269, rfl⟩
abbrev main_call0_v26 : Ref sig .tc := ⟨.hbm, 270, rfl⟩
abbrev main_call0_v27 : Ref sig .tc := ⟨.hbm, 271, rfl⟩
abbrev main_call0_v28 : Ref sig .tc := ⟨.hbm, 272, rfl⟩
abbrev main_call0_v29 : Ref sig .tc := ⟨.hbm, 273, rfl⟩
abbrev main_call0_v30 : Ref sig .tc := ⟨.hbm, 274, rfl⟩
abbrev main_call0_v31 : Ref sig .tc := ⟨.hbm, 275, rfl⟩
abbrev main_call0_v32 : Ref sig .tc := ⟨.hbm, 276, rfl⟩
abbrev main_call0_v33 : Ref sig .tc := ⟨.hbm, 277, rfl⟩
abbrev main_v10 : Ref sig .tc := ⟨.hbm, 278, rfl⟩
abbrev main_cst_3 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_cst_4 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_cst_5 : Ref sig .tc := ⟨.hbm, 290, rfl⟩
abbrev main_v20 : Ref sig .tc := ⟨.hbm, 291, rfl⟩
abbrev main_v21 : Ref sig .tc := ⟨.hbm, 292, rfl⟩
abbrev main_cst_6 : Ref sig .tc := ⟨.hbm, 293, rfl⟩
abbrev main_v22 : Ref sig .tc := ⟨.hbm, 294, rfl⟩
abbrev main_cst_7 : Ref sig .tc := ⟨.hbm, 295, rfl⟩
abbrev main_v23 : Ref sig .tc := ⟨.hbm, 296, rfl⟩
abbrev main_v24 : Ref sig .tc := ⟨.hbm, 297, rfl⟩
abbrev main_v25 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_cst_8 : Ref sig .tc := ⟨.hbm, 302, rfl⟩
abbrev main_v29 : Ref sig .tc := ⟨.hbm, 303, rfl⟩
abbrev main_v30 : Ref sig .tc := ⟨.hbm, 304, rfl⟩
abbrev main_v31 : Ref sig .tc := ⟨.hbm, 305, rfl⟩
abbrev main_v32 : Ref sig .tc := ⟨.hbm, 306, rfl⟩
abbrev main_call1_v0 : Ref sig .tc := ⟨.hbm, 307, rfl⟩
abbrev main_call1_cst : Ref sig .tc := ⟨.hbm, 308, rfl⟩
abbrev main_call1_c : Ref sig .tc := ⟨.hbm, 309, rfl⟩
abbrev main_call1_v1_0 : Ref sig .tc := ⟨.hbm, 310, rfl⟩
abbrev main_v33 : Ref sig .tc := ⟨.hbm, 311, rfl⟩
abbrev main_call2_v0 : Ref sig .tc := ⟨.hbm, 312, rfl⟩
abbrev main_call2_v1 : Ref sig .tc := ⟨.hbm, 313, rfl⟩
abbrev main_call2_v2 : Ref sig .tc := ⟨.hbm, 314, rfl⟩
abbrev main_call2_v3 : Ref sig .tc := ⟨.hbm, 315, rfl⟩
abbrev main_call2_v4 : Ref sig .tc := ⟨.hbm, 316, rfl⟩
abbrev main_v34 : Ref sig .tc := ⟨.hbm, 317, rfl⟩
abbrev main_v35 : Ref sig .tc := ⟨.hbm, 318, rfl⟩
abbrev main_v36 : Ref sig .tc := ⟨.hbm, 319, rfl⟩
abbrev main_call3_v0 : Ref sig .tc := ⟨.hbm, 320, rfl⟩
abbrev main_call3_cst : Ref sig .tc := ⟨.hbm, 321, rfl⟩
abbrev main_call3_c : Ref sig .tc := ⟨.hbm, 322, rfl⟩
abbrev main_call3_v1_0 : Ref sig .tc := ⟨.hbm, 323, rfl⟩
abbrev main_v37 : Ref sig .tc := ⟨.hbm, 324, rfl⟩

abbrev nD : Nat := 1
abbrev τ : Topo := Topo.v7x

variable {F : FTy → Type} [FloatOps F]
-- ==== Proof.Tape.lean ====
/-
  A straight line of tensor operations that two programs share, each over buffers of its own, every operation writing a
  fresh buffer. Two facts about such a line: after it, the two programs hold the same values in matching buffers
  (`Tape.agree`), and in either program each operation's equation still holds between the buffers as they are at the
  end of the line (`Tape.holds`).
-/
module

public import Idealize.ShloMosaic.Lib.StableHlo.Run
public import Idealize.ShloMosaic.Lib.Pipeline.Frame

@[expose] public section

noncomputable section

namespace Cert.Tape

open Idealize.ShloMosaic Idealize.ShloMosaic.StableHlo

variable {σ σ' : RefSig} {τ τ' : Topo} {Val : EltTy → Type}

/-- The number of a buffer in high-bandwidth memory; none for a buffer elsewhere. -/
def num {s : RefSig} (r : Ref s .tc) : Option ℕ := if r.space = .hbm then some r.idx.val else none

/-- Two buffers of one number are one buffer. -/
theorem eq_of_num {s : RefSig} {r q : Ref s .tc} {n : ℕ} (hr : num r = some n) (hq : num q = some n) : r = q := by
  obtain ⟨sp, i, h⟩ := r
  obtain ⟨sp', i', h'⟩ := q
  unfold num at hr hq
  split at hr <;> simp only [Option.some.injEq, reduceCtorEq] at hr
  split at hq <;> simp only [Option.some.injEq, reduceCtorEq] at hq
  rename_i e e'
  dsimp only at e e'
  subst e e'
  have : i = i' := Fin.ext (by simpa using hr.trans hq.symm)
  subst this
  rfl

/-- A value of the shared line: its buffer in the one program and its buffer in the other. -/
structure Slot (σ σ' : RefSig) (T : BufTy) where
  l : TRef σ T
  r : TRef σ' T

/-- The value is number `n` of the one program and number `n + 1` of the other. -/
def Slot.At {T : BufTy} (s : Slot σ σ' T) (n : ℕ) : Prop := num s.l.ref = some n ∧ num s.r.ref = some (n + 1)

/-- It can be decided. -/
instance {T : BufTy} (s : Slot σ σ' T) (n : ℕ) : Decidable (s.At n) := inferInstanceAs (Decidable (_ ∧ _))

/-- One operation of the shared line: its operands, its result, and the function between them. -/
inductive Step (σ σ' : RefSig) (Val : EltTy → Type)
  | nullary {U : BufTy} (y : Slot σ σ' U) (v : U.Contents Val)
  | unary {T U : BufTy} (x : Slot σ σ' T) (y : Slot σ σ' U) (f : T.Contents Val → U.Contents Val)
  | binary {A B U : BufTy} (a : Slot σ σ' A) (b : Slot σ σ' B) (y : Slot σ σ' U)
      (f : A.Contents Val → B.Contents Val → U.Contents Val)
  | reshape {T U : BufTy} (x : Slot σ σ' T) (y : Slot σ σ' U) (he : T.elt = U.elt) (hn : T.shape.ShapeCasts U.shape)

namespace Step

/-- The operation in the first program. -/
def left : Step σ σ' Val → HloOp τ σ Val
  | nullary y v => TRef.nullary y.l v
  | unary x y f => TRef.unary x.l y.l f
  | binary a b y f => TRef.binary a.l b.l y.l f
  | reshape x y he hn => TRef.reshape x.l y.l he hn

/-- The operation in the second program. -/
def right : Step σ σ' Val → HloOp τ' σ' Val
  | nullary y v => TRef.nullary y.r v
  | unary x y f => TRef.unary x.r y.r f
  | binary a b y f => TRef.binary a.r b.r y.r f
  | reshape x y he hn => TRef.reshape x.r y.r he hn

/-- The type of the operation's result. -/
def outTy : Step σ σ' Val → BufTy
  | @nullary _ _ _ U _ _ => U
  | @unary _ _ _ _ U _ _ _ => U
  | @binary _ _ _ _ _ U _ _ _ _ => U
  | @reshape _ _ _ _ U _ _ _ _ => U

/-- The operation's result. -/
def out : (s : Step σ σ' Val) → Slot σ σ' s.outTy
  | nullary y _ => y
  | unary _ y _ => y
  | binary _ _ y _ => y
  | reshape _ y _ _ => y

/-- The result's value, from the values `E` of the slots. -/
def val (E : ∀ T, Slot σ σ' T → T.Contents Val) : (s : Step σ σ' Val) → s.outTy.Contents Val
  | nullary _ v => v
  | unary x _ f => f (E _ x)
  | binary a b _ f => f (E _ a) (E _ b)
  | @reshape _ _ _ _ U x _ he hn => fun i => he ▸ shapeCast U.shape (E _ x) hn i

/-- An operand's number lies from `lo` on and before `k`. -/
def Old {T : BufTy} (lo k : ℕ) (s : Slot σ σ' T) : Prop :=
  match num s.l.ref with
  | some n => lo ≤ n ∧ n < k ∧ num s.r.ref = some (n + 1)
  | none => False

/-- It can be decided. -/
instance {T : BufTy} (lo k : ℕ) (s : Slot σ σ' T) : Decidable (Old lo k s) := by
  unfold Old; split <;> infer_instance

/-- The operation reads numbers from `lo` on and before `k` and writes number `k`. -/
def Ok (lo k : ℕ) : Step σ σ' Val → Prop
  | nullary y _ => y.At k
  | unary x y _ => Old lo k x ∧ y.At k
  | binary a b y _ => Old lo k a ∧ Old lo k b ∧ y.At k
  | reshape x y _ _ => Old lo k x ∧ y.At k

/-- It can be decided. -/
instance (lo k : ℕ) (s : Step σ σ' Val) : Decidable (s.Ok lo k) := by
  cases s <;> unfold Ok <;> infer_instance

end Step

/-- The line's operations write the numbers from `k` on, in order, each reading earlier ones from `lo` on. -/
def Ok (lo : ℕ) : ℕ → List (Step σ σ' Val) → Prop
  | _, [] => True
  | k, s :: t => s.Ok lo k ∧ Ok lo (k + 1) t

/-- It can be decided. -/
instance decOk (lo : ℕ) : (k : ℕ) → (t : List (Step σ σ' Val)) → Decidable (Ok lo k t)
  | _, [] => isTrue trivial
  | k, s :: t => @instDecidableAnd _ _ inferInstance (decOk lo (k + 1) t)

/-- The slots' values in the first program's buffers. -/
def readL (V : Valuation τ σ Val) (T : BufTy) (s : Slot σ σ' T) : T.Contents Val := s.l.ofBuf (V (Proc.devRef .tc s.l.ref))
/-- The slots' values in the second program's buffers. -/
def readR (W : Valuation τ' σ' Val) (T : BufTy) (s : Slot σ σ' T) : T.Contents Val := s.r.ofBuf (W (Proc.devRef .tc s.r.ref))

/-- Contents written to a typed buffer read back as they were. -/
theorem ofBuf_toBuf {s : RefSig} {T : BufTy} (t : TRef s T) (v : T.Contents Val) : t.ofBuf (t.toBuf v) = v :=
  TRef.ofBuf_toBuf t v

/-- After the operation its result holds its value. -/
theorem Step.readL_out (s : Step σ σ' Val) (V : Valuation τ σ Val) :
    readL ((s.left : HloOp τ σ Val).result V) _ s.out = s.val (readL V) := by
  cases s with
  | nullary y v => exact (congrArg y.l.ofBuf (nullary_result _ _ y.l.dev V)).trans (ofBuf_toBuf _ _)
  | unary x y f => exact (congrArg y.l.ofBuf (unary_result _ _ (fun u => y.l.toBuf (f (x.l.ofBuf u))) x.l.dev y.l.dev V)).trans (ofBuf_toBuf _ _)
  | binary a b y f => exact (congrArg y.l.ofBuf (binary_result _ _ _ (fun u v => y.l.toBuf (f (a.l.ofBuf u) (b.l.ofBuf v))) a.l.dev b.l.dev y.l.dev V)).trans (ofBuf_toBuf _ _)
  | @reshape T U x y he hn =>
    obtain ⟨⟨rx, ex, dx, ux⟩, x'⟩ := x
    obtain ⟨⟨ry, ey, dy, uy⟩, y'⟩ := y
    subst ex ey
    exact reshape_result rx ry he hn ⟨dx, ux⟩ ⟨dy, uy⟩ V

/-- In the second program an operation's result buffer holds the operation's value. -/
theorem Step.readR_out (s : Step σ σ' Val) (W : Valuation τ' σ' Val) :
    readR ((s.right : HloOp τ' σ' Val).result W) _ s.out = s.val (readR W) := by
  cases s with
  | nullary y v => exact (congrArg y.r.ofBuf (nullary_result _ _ y.r.dev W)).trans (ofBuf_toBuf _ _)
  | unary x y f => exact (congrArg y.r.ofBuf (unary_result _ _ (fun u => y.r.toBuf (f (x.r.ofBuf u))) x.r.dev y.r.dev W)).trans (ofBuf_toBuf _ _)
  | binary a b y f => exact (congrArg y.r.ofBuf (binary_result _ _ _ (fun u v => y.r.toBuf (f (a.r.ofBuf u) (b.r.ofBuf v))) a.r.dev b.r.dev y.r.dev W)).trans (ofBuf_toBuf _ _)
  | @reshape T U x y he hn =>
    obtain ⟨x', ⟨rx, ex, dx, ux⟩⟩ := x
    obtain ⟨y', ⟨ry, ey, dy, uy⟩⟩ := y
    subst ex ey
    exact reshape_result rx ry he hn ⟨dx, ux⟩ ⟨dy, uy⟩ W

/-- In the first program an operation keeps every other buffer. -/
theorem Step.left_ne (s : Step σ σ' Val) (V : Valuation τ σ Val) {r : Ref σ .tc} (h : r ≠ s.out.l.ref) :
    (s.left : HloOp τ σ Val).result V (Proc.devRef .tc r) = V (Proc.devRef .tc r) :=
  result_of_writes_ne _ V s.out.l.ref r (by cases s <;> rfl) h

/-- In the second program an operation keeps every other buffer. -/
theorem Step.right_ne (s : Step σ σ' Val) (W : Valuation τ' σ' Val) {r : Ref σ' .tc} (h : r ≠ s.out.r.ref) :
    (s.right : HloOp τ' σ' Val).result W (Proc.devRef .tc r) = W (Proc.devRef .tc r) :=
  result_of_writes_ne _ W s.out.r.ref r (by cases s <;> rfl) h

/-- A proper operation writes the buffer of its own number. -/
theorem Step.Ok.out_at {lo k : ℕ} {s : Step σ σ' Val} (h : s.Ok lo k) : s.out.At k := by
  cases s with
  | nullary => exact h
  | unary => exact h.2
  | binary => exact h.2.2
  | reshape => exact h.2

/-- The value depends on the old operands alone. -/
theorem Step.Ok.val_congr {lo k : ℕ} {s : Step σ σ' Val} (h : s.Ok lo k) {E E' : ∀ T, Slot σ σ' T → T.Contents Val}
    (he : ∀ T (x : Slot σ σ' T), Step.Old lo k x → E T x = E' T x) : s.val E = s.val E' := by
  cases s with
  | nullary => rfl
  | unary x y f => exact congrArg f (he _ x h.1)
  | binary a b y f => exact congrArg₂ f (he _ a h.1) (he _ b h.2.1)
  | @reshape T U x y e hn => exact congrArg (fun w i => e ▸ shapeCast U.shape w hn i) (he _ x h.1)

/-- An old buffer has a number in the line so far. -/
theorem Step.Old.elim {T : BufTy} {lo k : ℕ} {s : Slot σ σ' T} (h : Step.Old lo k s) :
    ∃ n, lo ≤ n ∧ n < k ∧ s.At n := by
  unfold Step.Old at h
  split at h
  · rename_i n hn; exact ⟨n, h.1, h.2.1, hn, h.2.2⟩
  · exact h.elim

/-- A buffer with a number in the line so far is old. -/
theorem Step.Old.intro {T : BufTy} {lo k n : ℕ} {s : Slot σ σ' T} (h : s.At n) (h₀ : lo ≤ n) (h₁ : n < k) :
    Step.Old lo k s := by
  unfold Step.Old; rw [h.1]; exact ⟨h₀, h₁, h.2⟩

/-- Buffers of different numbers are different. -/
theorem ne_of_num {s : RefSig} {r q : Ref s .tc} {n k : ℕ} (hr : num r = some n) (hq : num q = some k) (h : n ≠ k) :
    r ≠ q := fun e => h (Option.some.inj (hr.symm.trans ((congrArg num e).trans hq)))

/-- A buffer numbered before the line keeps its contents in the second program. -/
theorem right_keep {lo n : ℕ} {r : Ref σ' .tc} (hr : num r = some n) :
    ∀ (t : List (Step σ σ' Val)) (k : ℕ) (W : Valuation τ' σ' Val), Ok lo k t → n < k + 1 →
      after (t.map Step.right) W (Proc.devRef .tc r) = W (Proc.devRef .tc r)
  | [], _, _, _, _ => rfl
  | s :: t, k, W, h, hn => by
    rw [List.map_cons, after_cons, right_keep hr t (k + 1) _ h.2 (by omega),
      Step.right_ne _ _ (ne_of_num hr h.1.out_at.2 (by omega))]

/-- A buffer numbered before the line keeps its contents in the first program. -/
theorem left_keep {lo n : ℕ} {r : Ref σ .tc} (hr : num r = some n) :
    ∀ (t : List (Step σ σ' Val)) (k : ℕ) (V : Valuation τ σ Val), Ok lo k t → n < k →
      after (t.map Step.left) V (Proc.devRef .tc r) = V (Proc.devRef .tc r)
  | [], _, _, _, _ => rfl
  | s :: t, k, V, h, hn => by
    rw [List.map_cons, after_cons, left_keep hr t (k + 1) _ h.2 (by omega),
      Step.left_ne _ _ (ne_of_num hr h.1.out_at.1 (by omega))]

/-- A value numbered before the line keeps its value in the second program. -/
theorem readR_after {lo : ℕ} {T : BufTy} {x : Slot σ σ' T} {n : ℕ} (hx : x.At n) (t : List (Step σ σ' Val)) (k : ℕ)
    (W : Valuation τ' σ' Val) (h : Ok lo k t) (hn : n < k) : readR (after (t.map Step.right) W) T x = readR W T x := by
  unfold readR
  rw [right_keep hx.2 t k W h (by omega)]

/-- After the line the two programs agree on every value from `lo` on that the line wrote or that they agreed on
    before it. -/
theorem agree {lo : ℕ} : ∀ (t : List (Step σ σ' Val)) (k : ℕ) (V : Valuation τ σ Val) (W : Valuation τ' σ' Val), Ok lo k t →
    (∀ T (x : Slot σ σ' T), Step.Old lo k x → readL V T x = readR W T x) →
    ∀ T (x : Slot σ σ' T), Step.Old lo (k + t.length) x →
      readL (after (t.map Step.left) V) T x = readR (after (t.map Step.right) W) T x
  | [], _, _, _, _, hVW => hVW
  | s :: t, k, V, W, h, hVW => by
    intro T x hx
    refine agree t (k + 1) _ _ h.2 (fun U z hz => ?_) T x (by simpa [Nat.add_assoc, Nat.add_comm] using hx)
    obtain ⟨n, h₀, h₁, hzn⟩ := Step.Old.elim hz
    rcases Nat.lt_succ_iff_lt_or_eq.mp h₁ with hlt | rfl
    · have := hVW U z (Step.Old.intro hzn h₀ hlt)
      unfold readL readR at this ⊢
      rw [Step.left_ne _ _ (ne_of_num hzn.1 h.1.out_at.1 (by omega)), Step.right_ne _ _ (ne_of_num hzn.2 h.1.out_at.2 (by omega))]
      exact this
    · have e₁ := eq_of_num hzn.1 h.1.out_at.1
      have e₂ := eq_of_num hzn.2 h.1.out_at.2
      have hl := Step.readL_out s V
      have hr := Step.readR_out s W
      rw [h.1.val_congr hVW] at hl
      generalize s.out = o at e₁ e₂ hl hr
      generalize s.val (readR W) = v at hl hr
      generalize s.outTy = O at o v
      obtain ⟨⟨rz, ez, dz, uz⟩, ⟨rz', ez', dz', uz'⟩⟩ := z
      obtain ⟨⟨ro, eo, do', uo⟩, ⟨ro', eo', do'', uo'⟩⟩ := o
      dsimp only at e₁ e₂
      subst e₁ e₂
      subst ez
      subst eo
      exact hl.trans hr.symm

/-- The operation's equation between the second program's buffers. -/
def Step.Holds (W : Valuation τ' σ' Val) (s : Step σ σ' Val) : Prop := readR W _ s.out = s.val (readR W)

/-- After the line every operation's equation holds in the second program's buffers. -/
theorem holds {lo : ℕ} : ∀ (t : List (Step σ σ' Val)) (k : ℕ) (W : Valuation τ' σ' Val), Ok lo k t →
    ∀ s ∈ t, s.Holds (after (t.map Step.right) W)
  | [], _, _, _, _, hs => nomatch hs
  | s :: t, k, W, h, o, ho => by
    rw [List.map_cons, after_cons]
    rcases List.mem_cons.mp ho with rfl | ho
    · unfold Step.Holds
      rw [readR_after h.1.out_at t (k + 1) _ h.2 (by omega), Step.readR_out]
      refine h.1.val_congr fun T x hx => ?_
      obtain ⟨n, _, h₁, hx⟩ := Step.Old.elim hx
      rw [readR_after hx t (k + 1) _ h.2 (by omega)]
      unfold readR
      rw [Step.right_ne _ _ (ne_of_num hx.2 h.1.out_at.2 (by omega))]
    · exact holds t (k + 1) _ h.2 o ho

end Cert.Tape

end
-- ==== Proof.Host.lean ====
/-
  The host operations that the two programs share: jax's uniform draw from the key 1 (the key's words, the counters, the
  cipher's rounds, the mantissa trick) and the Gumbel transform of it. Each operation is written once, over the buffers
  of both programs. `steps` is the whole line; `noise` is its last part, from
  the random words (`main_call0_v20`) on.
-/
module

public import proofs.«01_k».proof.Proof.Tape
public import proofs.«01_k».proof.Proof.Gen.KernelIdeal
public import proofs.«01_k».proof.Proof.Gen.ReferenceIdeal

@[expose] public section

set_option maxRecDepth 4000
set_option Elab.async false

noncomputable section

namespace Cert.Host

open Idealize.ShloMosaic Idealize.ShloMosaic.StableHlo Cert.Tape

/-- A value of this type in both programs. -/
abbrev Words := Slot KernelIdeal.sig ReferenceIdeal.sig ⟨KernelIdeal.S16384x64, .i32⟩
/-- A value of this type in both programs. -/
abbrev Longs := Slot KernelIdeal.sig ReferenceIdeal.sig ⟨KernelIdeal.S16384x64, .i64⟩
/-- A value of this type in both programs. -/
abbrev Reals := Slot KernelIdeal.sig ReferenceIdeal.sig ⟨KernelIdeal.S16384x64, .f32⟩
/-- A value of this type in both programs. -/
abbrev Word := Slot KernelIdeal.sig ReferenceIdeal.sig ⟨KernelIdeal.S_, .i32⟩
/-- A value of this type in both programs. -/
abbrev Long := Slot KernelIdeal.sig ReferenceIdeal.sig ⟨KernelIdeal.S_, .i64⟩
/-- A value of this type in both programs. -/
abbrev Real := Slot KernelIdeal.sig ReferenceIdeal.sig ⟨KernelIdeal.S_, .f32⟩
/-- A value of this type in both programs. -/
abbrev Word1 := Slot KernelIdeal.sig ReferenceIdeal.sig ⟨KernelIdeal.S1, .i32⟩
/-- A value of this type in both programs. -/
abbrev Word2 := Slot KernelIdeal.sig ReferenceIdeal.sig ⟨KernelIdeal.S2, .i32⟩
/-- A value of this type in both programs. -/
abbrev Real11 := Slot KernelIdeal.sig ReferenceIdeal.sig ⟨KernelIdeal.S1x1, .f32⟩
/-- An operation of both programs, over the extended reals. -/
abbrev Op := Step KernelIdeal.sig ReferenceIdeal.sig (Elt Ideal)

open KernelIdeal KernelIdeal.Facts₀

set_option maxHeartbeats 40000000 in
/-- The words of the key 1, and the ends 0 and 1 of the interval drawn from. -/
noncomputable def key : List Op :=
  .nullary (⟨.of KernelIdeal.main_c, .of ReferenceIdeal.main_c⟩ : Word) (constantI S_ 32 1#32)
  :: .nullary (⟨.of KernelIdeal.main_c_0, .of ReferenceIdeal.main_c_0⟩ : Word) (constantI S_ 32 32#32)
  :: .binary (⟨.of KernelIdeal.main_c, .of ReferenceIdeal.main_c⟩ : Word) (⟨.of KernelIdeal.main_c_0, .of ReferenceIdeal.main_c_0⟩ : Word) (⟨.of KernelIdeal.main_v2, .of ReferenceIdeal.main_v3⟩ : Word) Host.shrui
  :: .unary (⟨.of KernelIdeal.main_v2, .of ReferenceIdeal.main_v3⟩ : Word) (⟨.of KernelIdeal.main_v3, .of ReferenceIdeal.main_v4⟩ : Word) id
  :: .unary (⟨.of KernelIdeal.main_v3, .of ReferenceIdeal.main_v4⟩ : Word) (⟨.of KernelIdeal.main_v4, .of ReferenceIdeal.main_v5⟩ : Word1) (broadcastInDim S1 ![] bcast_S_S1)
  :: .nullary (⟨.of KernelIdeal.main_c_1, .of ReferenceIdeal.main_c_1⟩ : Word) (constantI S_ 32 4294967295#32)
  :: .binary (⟨.of KernelIdeal.main_c, .of ReferenceIdeal.main_c⟩ : Word) (⟨.of KernelIdeal.main_c_1, .of ReferenceIdeal.main_c_1⟩ : Word) (⟨.of KernelIdeal.main_v5, .of ReferenceIdeal.main_v6⟩ : Word) andi
  :: .unary (⟨.of KernelIdeal.main_v5, .of ReferenceIdeal.main_v6⟩ : Word) (⟨.of KernelIdeal.main_v6, .of ReferenceIdeal.main_v7⟩ : Word) id
  :: .unary (⟨.of KernelIdeal.main_v6, .of ReferenceIdeal.main_v7⟩ : Word) (⟨.of KernelIdeal.main_v7, .of ReferenceIdeal.main_v8⟩ : Word1) (broadcastInDim S1 ![] bcast_S_S1)
  :: .binary (⟨.of KernelIdeal.main_v4, .of ReferenceIdeal.main_v5⟩ : Word1) (⟨.of KernelIdeal.main_v7, .of ReferenceIdeal.main_v8⟩ : Word1) (⟨.of KernelIdeal.main_v8, .of ReferenceIdeal.main_v9⟩ : Word2) (fun a b => concatenate S2 0 [⟨S1, a⟩, ⟨S1, b⟩] concatenates_S1_S1_S2_d0)
  :: .nullary (⟨.of KernelIdeal.main_cst, .of ReferenceIdeal.main_cst⟩ : Real) (constant (F := Ideal) S_ .f32 0x00000000#32)
  :: .nullary (⟨.of KernelIdeal.main_cst_2, .of ReferenceIdeal.main_cst_2⟩ : Real) (constant (F := Ideal) S_ .f32 0x3F800000#32)
  :: []

set_option maxHeartbeats 40000000 in
/-- The draw, part 1 of 4. -/
noncomputable def draw0 : List Op :=
  .unary (⟨.of KernelIdeal.main_cst, .of ReferenceIdeal.main_cst⟩ : Real) (⟨.of KernelIdeal.main_call0_v0, .of ReferenceIdeal.main_call0_v0⟩ : Real) id
  :: .unary (⟨.of KernelIdeal.main_cst_2, .of ReferenceIdeal.main_cst_2⟩ : Real) (⟨.of KernelIdeal.main_call0_v1, .of ReferenceIdeal.main_call0_v1⟩ : Real) id
  :: .unary (⟨.of KernelIdeal.main_call0_v0, .of ReferenceIdeal.main_call0_v0⟩ : Real) (⟨.of KernelIdeal.main_call0_v2, .of ReferenceIdeal.main_call0_v2⟩ : Real11) (broadcastInDim S1x1 ![] bcast_S_S1x1)
  :: .unary (⟨.of KernelIdeal.main_call0_v1, .of ReferenceIdeal.main_call0_v1⟩ : Real) (⟨.of KernelIdeal.main_call0_v3, .of ReferenceIdeal.main_call0_v3⟩ : Real11) (broadcastInDim S1x1 ![] bcast_S_S1x1)
  :: .unary (⟨.of KernelIdeal.main_v8, .of ReferenceIdeal.main_v9⟩ : Word2) (⟨.of KernelIdeal.main_call0_v4, .of ReferenceIdeal.main_call0_v4⟩ : Word1) (extractStridedSlice S1 ![0] · slices_S2_S1_0)
  :: .reshape (⟨.of KernelIdeal.main_call0_v4, .of ReferenceIdeal.main_call0_v4⟩ : Word1) (⟨.of KernelIdeal.main_call0_v5, .of ReferenceIdeal.main_call0_v5⟩ : Word) (rfl : (.i32 : EltTy) = .i32) shapeCasts_S1_S_
  :: .unary (⟨.of KernelIdeal.main_v8, .of ReferenceIdeal.main_v9⟩ : Word2) (⟨.of KernelIdeal.main_call0_v6, .of ReferenceIdeal.main_call0_v6⟩ : Word1) (extractStridedSlice S1 ![1] · slices_S2_S1_1)
  :: .reshape (⟨.of KernelIdeal.main_call0_v6, .of ReferenceIdeal.main_call0_v6⟩ : Word1) (⟨.of KernelIdeal.main_call0_v7, .of ReferenceIdeal.main_call0_v7⟩ : Word) (rfl : (.i32 : EltTy) = .i32) shapeCasts_S1_S_
  :: .nullary (⟨.of KernelIdeal.main_call0_v8, .of ReferenceIdeal.main_call0_v8⟩ : Longs) (iotaInDim S16384x64 64 0)
  :: .nullary (⟨.of KernelIdeal.main_call0_v9, .of ReferenceIdeal.main_call0_v9⟩ : Longs) (iotaInDim S16384x64 64 1)
  :: .nullary (⟨.of KernelIdeal.main_call0_c, .of ReferenceIdeal.main_call0_c⟩ : Long) (constantI S_ 64 64#64)
  :: .unary (⟨.of KernelIdeal.main_call0_c, .of ReferenceIdeal.main_call0_c⟩ : Long) (⟨.of KernelIdeal.main_call0_v10, .of ReferenceIdeal.main_call0_v10⟩ : Longs) (broadcastInDim S16384x64 ![] bcast_S_S16384x64)
  :: .binary (⟨.of KernelIdeal.main_call0_v10, .of ReferenceIdeal.main_call0_v10⟩ : Longs) (⟨.of KernelIdeal.main_call0_v8, .of ReferenceIdeal.main_call0_v8⟩ : Longs) (⟨.of KernelIdeal.main_call0_v11, .of ReferenceIdeal.main_call0_v11⟩ : Longs) muli
  :: .nullary (⟨.of KernelIdeal.main_call0_c_0, .of ReferenceIdeal.main_call0_c_0⟩ : Long) (constantI S_ 64 1#64)
  :: .unary (⟨.of KernelIdeal.main_call0_c_0, .of ReferenceIdeal.main_call0_c_0⟩ : Long) (⟨.of KernelIdeal.main_call0_v12, .of ReferenceIdeal.main_call0_v12⟩ : Longs) (broadcastInDim S16384x64 ![] bcast_S_S16384x64)
  :: .binary (⟨.of KernelIdeal.main_call0_v12, .of ReferenceIdeal.main_call0_v12⟩ : Longs) (⟨.of KernelIdeal.main_call0_v9, .of ReferenceIdeal.main_call0_v9⟩ : Longs) (⟨.of KernelIdeal.main_call0_v13, .of ReferenceIdeal.main_call0_v13⟩ : Longs) muli
  :: .binary (⟨.of KernelIdeal.main_call0_v11, .of ReferenceIdeal.main_call0_v11⟩ : Longs) (⟨.of KernelIdeal.main_call0_v13, .of ReferenceIdeal.main_call0_v13⟩ : Longs) (⟨.of KernelIdeal.main_call0_v14, .of ReferenceIdeal.main_call0_v14⟩ : Longs) addi
  :: .nullary (⟨.of KernelIdeal.main_call0_c_1, .of ReferenceIdeal.main_call0_c_1⟩ : Long) (constantI S_ 64 32#64)
  :: .unary (⟨.of KernelIdeal.main_call0_c_1, .of ReferenceIdeal.main_call0_c_1⟩ : Long) (⟨.of KernelIdeal.main_call0_v15, .of ReferenceIdeal.main_call0_v15⟩ : Longs) (broadcastInDim S16384x64 ![] bcast_S_S16384x64)
  :: .binary (⟨.of KernelIdeal.main_call0_v14, .of ReferenceIdeal.main_call0_v14⟩ : Longs) (⟨.of KernelIdeal.main_call0_v15, .of ReferenceIdeal.main_call0_v15⟩ : Longs) (⟨.of KernelIdeal.main_call0_v16, .of ReferenceIdeal.main_call0_v16⟩ : Longs) Host.shrui
  :: .unary (⟨.of KernelIdeal.main_call0_v14, .of ReferenceIdeal.main_call0_v14⟩ : Longs) (⟨.of KernelIdeal.main_call0_v17, .of ReferenceIdeal.main_call0_v17⟩ : Words) (trunci 32 · natLt_32_64)
  :: .unary (⟨.of KernelIdeal.main_call0_v16, .of ReferenceIdeal.main_call0_v16⟩ : Longs) (⟨.of KernelIdeal.main_call0_v18, .of ReferenceIdeal.main_call0_v18⟩ : Words) (trunci 32 · natLt_32_64)
  :: .binary (⟨.of KernelIdeal.main_call0_v5, .of ReferenceIdeal.main_call0_v5⟩ : Word) (⟨.of KernelIdeal.main_call0_v7, .of ReferenceIdeal.main_call0_v7⟩ : Word) (⟨.of KernelIdeal.main_call0_call0_v0, .of ReferenceIdeal.main_call0_call0_v0⟩ : Word) xori
  :: .nullary (⟨.of KernelIdeal.main_call0_call0_c, .of ReferenceIdeal.main_call0_call0_c⟩ : Word) (constantI S_ 32 466688986#32)
  :: .binary (⟨.of KernelIdeal.main_call0_call0_v0, .of ReferenceIdeal.main_call0_call0_v0⟩ : Word) (⟨.of KernelIdeal.main_call0_call0_c, .of ReferenceIdeal.main_call0_call0_c⟩ : Word) (⟨.of KernelIdeal.main_call0_call0_v1, .of ReferenceIdeal.main_call0_call0_v1⟩ : Word) xori
  :: .unary (⟨.of KernelIdeal.main_call0_v5, .of ReferenceIdeal.main_call0_v5⟩ : Word) (⟨.of KernelIdeal.main_call0_call0_v2, .of ReferenceIdeal.main_call0_call0_v2⟩ : Words) (broadcastInDim S16384x64 ![] bcast_S_S16384x64)
  :: .binary (⟨.of KernelIdeal.main_call0_v18, .of ReferenceIdeal.main_call0_v18⟩ : Words) (⟨.of KernelIdeal.main_call0_call0_v2, .of ReferenceIdeal.main_call0_call0_v2⟩ : Words) (⟨.of KernelIdeal.main_call0_call0_v3, .of ReferenceIdeal.main_call0_call0_v3⟩ : Words) addi
  :: .unary (⟨.of KernelIdeal.main_call0_v7, .of ReferenceIdeal.main_call0_v7⟩ : Word) (⟨.of KernelIdeal.main_call0_call0_v4, .of ReferenceIdeal.main_call0_call0_v4⟩ : Words) (broadcastInDim S16384x64 ![] bcast_S_S16384x64)
  :: .binary (⟨.of KernelIdeal.main_call0_v17, .of ReferenceIdeal.main_call0_v17⟩ : Words) (⟨.of KernelIdeal.main_call0_call0_v4, .of ReferenceIdeal.main_call0_call0_v4⟩ : Words) (⟨.of KernelIdeal.main_call0_call0_v5, .of ReferenceIdeal.main_call0_call0_v5⟩ : Words) addi
  :: .binary (⟨.of KernelIdeal.main_call0_call0_v3, .of ReferenceIdeal.main_call0_call0_v3⟩ : Words) (⟨.of KernelIdeal.main_call0_call0_v5, .of ReferenceIdeal.main_call0_call0_v5⟩ : Words) (⟨.of KernelIdeal.main_call0_call0_v6, .of ReferenceIdeal.main_call0_call0_v6⟩ : Words) addi
  :: .nullary (⟨.of KernelIdeal.main_call0_call0_c_0, .of ReferenceIdeal.main_call0_call0_c_0⟩ : Word) (constantI S_ 32 13#32)
  :: .unary (⟨.of KernelIdeal.main_call0_call0_c_0, .of ReferenceIdeal.main_call0_call0_c_0⟩ : Word) (⟨.of KernelIdeal.main_call0_call0_v7, .of ReferenceIdeal.main_call0_call0_v7⟩ : Words) (broadcastInDim S16384x64 ![] bcast_S_S16384x64)
  :: .binary (⟨.of KernelIdeal.main_call0_call0_v5, .of ReferenceIdeal.main_call0_call0_v5⟩ : Words) (⟨.of KernelIdeal.main_call0_call0_v7, .of ReferenceIdeal.main_call0_call0_v7⟩ : Words) (⟨.of KernelIdeal.main_call0_call0_v8, .of ReferenceIdeal.main_call0_call0_v8⟩ : Words) Host.shli
  :: .nullary (⟨.of KernelIdeal.main_call0_call0_c_1, .of ReferenceIdeal.main_call0_call0_c_1⟩ : Word) (constantI S_ 32 19#32)
  :: .unary (⟨.of KernelIdeal.main_call0_call0_c_1, .of ReferenceIdeal.main_call0_call0_c_1⟩ : Word) (⟨.of KernelIdeal.main_call0_call0_v9, .of ReferenceIdeal.main_call0_call0_v9⟩ : Words) (broadcastInDim S16384x64 ![] bcast_S_S16384x64)
  :: .binary (⟨.of KernelIdeal.main_call0_call0_v5, .of ReferenceIdeal.main_call0_call0_v5⟩ : Words) (⟨.of KernelIdeal.main_call0_call0_v9, .of ReferenceIdeal.main_call0_call0_v9⟩ : Words) (⟨.of KernelIdeal.main_call0_call0_v10, .of ReferenceIdeal.main_call0_call0_v10⟩ : Words) Host.shrui
  :: .binary (⟨.of KernelIdeal.main_call0_call0_v8, .of ReferenceIdeal.main_call0_call0_v8⟩ : Words) (⟨.of KernelIdeal.main_call0_call0_v10, .of ReferenceIdeal.main_call0_call0_v10⟩ : Words) (⟨.of KernelIdeal.main_call0_call0_v11, .of ReferenceIdeal.main_call0_call0_v11⟩ : Words) ori
  :: .binary (⟨.of KernelIdeal.main_call0_call0_v6, .of ReferenceIdeal.main_call0_call0_v6⟩ : Words) (⟨.of KernelIdeal.main_call0_call0_v11, .of ReferenceIdeal.main_call0_call0_v11⟩ : Words) (⟨.of KernelIdeal.main_call0_call0_v12, .of ReferenceIdeal.main_call0_call0_v12⟩ : Words) xori
  :: .binary (⟨.of KernelIdeal.main_call0_call0_v6, .of ReferenceIdeal.main_call0_call0_v6⟩ : Words) (⟨.of KernelIdeal.main_call0_call0_v12, .of ReferenceIdeal.main_call0_call0_v12⟩ : Words) (⟨.of KernelIdeal.main_call0_call0_v13, .of ReferenceIdeal.main_call0_call0_v13⟩ : Words) addi
  :: .nullary (⟨.of KernelIdeal.main_call0_call0_c_2, .of ReferenceIdeal.main_call0_call0_c_2⟩ : Word) (constantI S_ 32 15#32)
  :: .unary (⟨.of KernelIdeal.main_call0_call0_c_2, .of ReferenceIdeal.main_call0_call0_c_2⟩ : Word) (⟨.of KernelIdeal.main_call0_call0_v14, .of ReferenceIdeal.main_call0_call0_v14⟩ : Words) (broadcastInDim S16384x64 ![] bcast_S_S16384x64)
  :: .binary (⟨.of KernelIdeal.main_call0_call0_v12, .of ReferenceIdeal.main_call0_call0_v12⟩ : Words) (⟨.of KernelIdeal.main_call0_call0_v14, .of ReferenceIdeal.main_call0_call0_v14⟩ : Words) (⟨.of KernelIdeal.main_call0_call0_v15, .of ReferenceIdeal.main_call0_call0_v15⟩ : Words) Host.shli
  :: .nullary (⟨.of KernelIdeal.main_call0_call0_c_3, .of ReferenceIdeal.main_call0_call0_c_3⟩ : Word) (constantI S_ 32 17#32)
  :: .unary (⟨.of KernelIdeal.main_call0_call0_c_3, .of ReferenceIdeal.main_call0_call0_c_3⟩ : Word) (⟨.of KernelIdeal.main_call0_call0_v16, .of ReferenceIdeal.main_call0_call0_v16⟩ : Words) (broadcastInDim S16384x64 ![] bcast_S_S16384x64)
  :: .binary (⟨.of KernelIdeal.main_call0_call0_v12, .of ReferenceIdeal.main_call0_call0_v12⟩ : Words) (⟨.of KernelIdeal.main_call0_call0_v16, .of ReferenceIdeal.main_call0_call0_v16⟩ : Words) (⟨.of KernelIdeal.main_call0_call0_v17, .of ReferenceIdeal.main_call0_call0_v17⟩ : Words) Host.shrui
  :: .binary (⟨.of KernelIdeal.main_call0_call0_v15, .of ReferenceIdeal.main_call0_call0_v15⟩ : Words) (⟨.of KernelIdeal.main_call0_call0_v17, .of ReferenceIdeal.main_call0_call0_v17⟩ : Words) (⟨.of KernelIdeal.main_call0_call0_v18, .of ReferenceIdeal.main_call0_call0_v18⟩ : Words) ori
  :: .binary (⟨.of KernelIdeal.main_call0_call0_v13, .of ReferenceIdeal.main_call0_call0_v13⟩ : Words) (⟨.of KernelIdeal.main_call0_call0_v18, .of ReferenceIdeal.main_call0_call0_v18⟩ : Words) (⟨.of KernelIdeal.main_call0_call0_v19, .of ReferenceIdeal.main_call0_call0_v19⟩ : Words) xori
  :: .binary (⟨.of KernelIdeal.main_call0_call0_v13, .of ReferenceIdeal.main_call0_call0_v13⟩ : Words) (⟨.of KernelIdeal.main_call0_call0_v19, .of ReferenceIdeal.main_call0_call0_v19⟩ : Words) (⟨.of KernelIdeal.main_call0_call0_v20, .of ReferenceIdeal.main_call0_call0_v20⟩ : Words) addi
  :: .nullary (⟨.of KernelIdeal.main_call0_call0_c_4, .of ReferenceIdeal.main_call0_call0_c_4⟩ : Word) (constantI S_ 32 26#32)
  :: .unary (⟨.of KernelIdeal.main_call0_call0_c_4, .of ReferenceIdeal.main_call0_call0_c_4⟩ : Word) (⟨.of KernelIdeal.main_call0_call0_v21, .of ReferenceIdeal.main_call0_call0_v21⟩ : Words) (broadcastInDim S16384x64 ![] bcast_S_S16384x64)
  :: .binary (⟨.of KernelIdeal.main_call0_call0_v19, .of ReferenceIdeal.main_call0_call0_v19⟩ : Words) (⟨.of KernelIdeal.main_call0_call0_v21, .of ReferenceIdeal.main_call0_call0_v21⟩ : Words) (⟨.of KernelIdeal.main_call0_call0_v22, .of ReferenceIdeal.main_call0_call0_v22⟩ : Words) Host.shli
  :: .nullary (⟨.of KernelIdeal.main_call0_call0_c_5, .of ReferenceIdeal.main_call0_call0_c_5⟩ : Word) (constantI S_ 32 6#32)
  :: .unary (⟨.of KernelIdeal.main_call0_call0_c_5, .of ReferenceIdeal.main_call0_call0_c_5⟩ : Word) (⟨.of KernelIdeal.main_call0_call0_v23, .of ReferenceIdeal.main_call0_call0_v23⟩ : Words) (broadcastInDim S16384x64 ![] bcast_S_S16384x64)
  :: .binary (⟨.of KernelIdeal.main_call0_call0_v19, .of ReferenceIdeal.main_call0_call0_v19⟩ : Words) (⟨.of KernelIdeal.main_call0_call0_v23, .of ReferenceIdeal.main_call0_call0_v23⟩ : Words) (⟨.of KernelIdeal.main_call0_call0_v24, .of ReferenceIdeal.main_call0_call0_v24⟩ : Words) Host.shrui
  :: .binary (⟨.of KernelIdeal.main_call0_call0_v22, .of ReferenceIdeal.main_call0_call0_v22⟩ : Words) (⟨.of KernelIdeal.main_call0_call0_v24, .of ReferenceIdeal.main_call0_call0_v24⟩ : Words) (⟨.of KernelIdeal.main_call0_call0_v25, .of ReferenceIdeal.main_call0_call0_v25⟩ : Words) ori
  :: .binary (⟨.of KernelIdeal.main_call0_call0_v20, .of ReferenceIdeal.main_call0_call0_v20⟩ : Words) (⟨.of KernelIdeal.main_call0_call0_v25, .of ReferenceIdeal.main_call0_call0_v25⟩ : Words) (⟨.of KernelIdeal.main_call0_call0_v26, .of ReferenceIdeal.main_call0_call0_v26⟩ : Words) xori
  :: .binary (⟨.of KernelIdeal.main_call0_call0_v20, .of ReferenceIdeal.main_call0_call0_v20⟩ : Words) (⟨.of KernelIdeal.main_call0_call0_v26, .of ReferenceIdeal.main_call0_call0_v26⟩ : Words) (⟨.of KernelIdeal.main_call0_call0_v27, .of ReferenceIdeal.main_call0_call0_v27⟩ : Words) addi
  :: .nullary (⟨.of KernelIdeal.main_call0_call0_c_6, .of ReferenceIdeal.main_call0_call0_c_6⟩ : Word) (constantI S_ 32 6#32)
  :: .unary (⟨.of KernelIdeal.main_call0_call0_c_6, .of ReferenceIdeal.main_call0_call0_c_6⟩ : Word) (⟨.of KernelIdeal.main_call0_call0_v28, .of ReferenceIdeal.main_call0_call0_v28⟩ : Words) (broadcastInDim S16384x64 ![] bcast_S_S16384x64)
  :: .binary (⟨.of KernelIdeal.main_call0_call0_v26, .of ReferenceIdeal.main_call0_call0_v26⟩ : Words) (⟨.of KernelIdeal.main_call0_call0_v28, .of ReferenceIdeal.main_call0_call0_v28⟩ : Words) (⟨.of KernelIdeal.main_call0_call0_v29, .of ReferenceIdeal.main_call0_call0_v29⟩ : Words) Host.shli
  :: []

set_option maxHeartbeats 40000000 in
/-- The draw, part 2 of 4. -/
noncomputable def draw1 : List Op :=
  .nullary (⟨.of KernelIdeal.main_call0_call0_c_7, .of ReferenceIdeal.main_call0_call0_c_7⟩ : Word) (constantI S_ 32 26#32)
  :: .unary (⟨.of KernelIdeal.main_call0_call0_c_7, .of ReferenceIdeal.main_call0_call0_c_7⟩ : Word) (⟨.of KernelIdeal.main_call0_call0_v30, .of ReferenceIdeal.main_call0_call0_v30⟩ : Words) (broadcastInDim S16384x64 ![] bcast_S_S16384x64)
  :: .binary (⟨.of KernelIdeal.main_call0_call0_v26, .of ReferenceIdeal.main_call0_call0_v26⟩ : Words) (⟨.of KernelIdeal.main_call0_call0_v30, .of ReferenceIdeal.main_call0_call0_v30⟩ : Words) (⟨.of KernelIdeal.main_call0_call0_v31, .of ReferenceIdeal.main_call0_call0_v31⟩ : Words) Host.shrui
  :: .binary (⟨.of KernelIdeal.main_call0_call0_v29, .of ReferenceIdeal.main_call0_call0_v29⟩ : Words) (⟨.of KernelIdeal.main_call0_call0_v31, .of ReferenceIdeal.main_call0_call0_v31⟩ : Words) (⟨.of KernelIdeal.main_call0_call0_v32, .of ReferenceIdeal.main_call0_call0_v32⟩ : Words) ori
  :: .binary (⟨.of KernelIdeal.main_call0_call0_v27, .of ReferenceIdeal.main_call0_call0_v27⟩ : Words) (⟨.of KernelIdeal.main_call0_call0_v32, .of ReferenceIdeal.main_call0_call0_v32⟩ : Words) (⟨.of KernelIdeal.main_call0_call0_v33, .of ReferenceIdeal.main_call0_call0_v33⟩ : Words) xori
  :: .unary (⟨.of KernelIdeal.main_call0_v7, .of ReferenceIdeal.main_call0_v7⟩ : Word) (⟨.of KernelIdeal.main_call0_call0_v34, .of ReferenceIdeal.main_call0_call0_v34⟩ : Words) (broadcastInDim S16384x64 ![] bcast_S_S16384x64)
  :: .binary (⟨.of KernelIdeal.main_call0_call0_v27, .of ReferenceIdeal.main_call0_call0_v27⟩ : Words) (⟨.of KernelIdeal.main_call0_call0_v34, .of ReferenceIdeal.main_call0_call0_v34⟩ : Words) (⟨.of KernelIdeal.main_call0_call0_v35, .of ReferenceIdeal.main_call0_call0_v35⟩ : Words) addi
  :: .unary (⟨.of KernelIdeal.main_call0_call0_v1, .of ReferenceIdeal.main_call0_call0_v1⟩ : Word) (⟨.of KernelIdeal.main_call0_call0_v36, .of ReferenceIdeal.main_call0_call0_v36⟩ : Words) (broadcastInDim S16384x64 ![] bcast_S_S16384x64)
  :: .binary (⟨.of KernelIdeal.main_call0_call0_v33, .of ReferenceIdeal.main_call0_call0_v33⟩ : Words) (⟨.of KernelIdeal.main_call0_call0_v36, .of ReferenceIdeal.main_call0_call0_v36⟩ : Words) (⟨.of KernelIdeal.main_call0_call0_v37, .of ReferenceIdeal.main_call0_call0_v37⟩ : Words) addi
  :: .nullary (⟨.of KernelIdeal.main_call0_call0_c_8, .of ReferenceIdeal.main_call0_call0_c_8⟩ : Word) (constantI S_ 32 1#32)
  :: .unary (⟨.of KernelIdeal.main_call0_call0_c_8, .of ReferenceIdeal.main_call0_call0_c_8⟩ : Word) (⟨.of KernelIdeal.main_call0_call0_v38, .of ReferenceIdeal.main_call0_call0_v38⟩ : Words) (broadcastInDim S16384x64 ![] bcast_S_S16384x64)
  :: .binary (⟨.of KernelIdeal.main_call0_call0_v37, .of ReferenceIdeal.main_call0_call0_v37⟩ : Words) (⟨.of KernelIdeal.main_call0_call0_v38, .of ReferenceIdeal.main_call0_call0_v38⟩ : Words) (⟨.of KernelIdeal.main_call0_call0_v39, .of ReferenceIdeal.main_call0_call0_v39⟩ : Words) addi
  :: .binary (⟨.of KernelIdeal.main_call0_call0_v35, .of ReferenceIdeal.main_call0_call0_v35⟩ : Words) (⟨.of KernelIdeal.main_call0_call0_v39, .of ReferenceIdeal.main_call0_call0_v39⟩ : Words) (⟨.of KernelIdeal.main_call0_call0_v40, .of ReferenceIdeal.main_call0_call0_v40⟩ : Words) addi
  :: .nullary (⟨.of KernelIdeal.main_call0_call0_c_9, .of ReferenceIdeal.main_call0_call0_c_9⟩ : Word) (constantI S_ 32 17#32)
  :: .unary (⟨.of KernelIdeal.main_call0_call0_c_9, .of ReferenceIdeal.main_call0_call0_c_9⟩ : Word) (⟨.of KernelIdeal.main_call0_call0_v41, .of ReferenceIdeal.main_call0_call0_v41⟩ : Words) (broadcastInDim S16384x64 ![] bcast_S_S16384x64)
  :: .binary (⟨.of KernelIdeal.main_call0_call0_v39, .of ReferenceIdeal.main_call0_call0_v39⟩ : Words) (⟨.of KernelIdeal.main_call0_call0_v41, .of ReferenceIdeal.main_call0_call0_v41⟩ : Words) (⟨.of KernelIdeal.main_call0_call0_v42, .of ReferenceIdeal.main_call0_call0_v42⟩ : Words) Host.shli
  :: .nullary (⟨.of KernelIdeal.main_call0_call0_c_10, .of ReferenceIdeal.main_call0_call0_c_10⟩ : Word) (constantI S_ 32 15#32)
  :: .unary (⟨.of KernelIdeal.main_call0_call0_c_10, .of ReferenceIdeal.main_call0_call0_c_10⟩ : Word) (⟨.of KernelIdeal.main_call0_call0_v43, .of ReferenceIdeal.main_call0_call0_v43⟩ : Words) (broadcastInDim S16384x64 ![] bcast_S_S16384x64)
  :: .binary (⟨.of KernelIdeal.main_call0_call0_v39, .of ReferenceIdeal.main_call0_call0_v39⟩ : Words) (⟨.of KernelIdeal.main_call0_call0_v43, .of ReferenceIdeal.main_call0_call0_v43⟩ : Words) (⟨.of KernelIdeal.main_call0_call0_v44, .of ReferenceIdeal.main_call0_call0_v44⟩ : Words) Host.shrui
  :: .binary (⟨.of KernelIdeal.main_call0_call0_v42, .of ReferenceIdeal.main_call0_call0_v42⟩ : Words) (⟨.of KernelIdeal.main_call0_call0_v44, .of ReferenceIdeal.main_call0_call0_v44⟩ : Words) (⟨.of KernelIdeal.main_call0_call0_v45, .of ReferenceIdeal.main_call0_call0_v45⟩ : Words) ori
  :: .binary (⟨.of KernelIdeal.main_call0_call0_v40, .of ReferenceIdeal.main_call0_call0_v40⟩ : Words) (⟨.of KernelIdeal.main_call0_call0_v45, .of ReferenceIdeal.main_call0_call0_v45⟩ : Words) (⟨.of KernelIdeal.main_call0_call0_v46, .of ReferenceIdeal.main_call0_call0_v46⟩ : Words) xori
  :: .binary (⟨.of KernelIdeal.main_call0_call0_v40, .of ReferenceIdeal.main_call0_call0_v40⟩ : Words) (⟨.of KernelIdeal.main_call0_call0_v46, .of ReferenceIdeal.main_call0_call0_v46⟩ : Words) (⟨.of KernelIdeal.main_call0_call0_v47, .of ReferenceIdeal.main_call0_call0_v47⟩ : Words) addi
  :: .nullary (⟨.of KernelIdeal.main_call0_call0_c_11, .of ReferenceIdeal.main_call0_call0_c_11⟩ : Word) (constantI S_ 32 29#32)
  :: .unary (⟨.of KernelIdeal.main_call0_call0_c_11, .of ReferenceIdeal.main_call0_call0_c_11⟩ : Word) (⟨.of KernelIdeal.main_call0_call0_v48, .of ReferenceIdeal.main_call0_call0_v48⟩ : Words) (broadcastInDim S16384x64 ![] bcast_S_S16384x64)
  :: .binary (⟨.of KernelIdeal.main_call0_call0_v46, .of ReferenceIdeal.main_call0_call0_v46⟩ : Words) (⟨.of KernelIdeal.main_call0_call0_v48, .of ReferenceIdeal.main_call0_call0_v48⟩ : Words) (⟨.of KernelIdeal.main_call0_call0_v49, .of ReferenceIdeal.main_call0_call0_v49⟩ : Words) Host.shli
  :: .nullary (⟨.of KernelIdeal.main_call0_call0_c_12, .of ReferenceIdeal.main_call0_call0_c_12⟩ : Word) (constantI S_ 32 3#32)
  :: .unary (⟨.of KernelIdeal.main_call0_call0_c_12, .of ReferenceIdeal.main_call0_call0_c_12⟩ : Word) (⟨.of KernelIdeal.main_call0_call0_v50, .of ReferenceIdeal.main_call0_call0_v50⟩ : Words) (broadcastInDim S16384x64 ![] bcast_S_S16384x64)
  :: .binary (⟨.of KernelIdeal.main_call0_call0_v46, .of ReferenceIdeal.main_call0_call0_v46⟩ : Words) (⟨.of KernelIdeal.main_call0_call0_v50, .of ReferenceIdeal.main_call0_call0_v50⟩ : Words) (⟨.of KernelIdeal.main_call0_call0_v51, .of ReferenceIdeal.main_call0_call0_v51⟩ : Words) Host.shrui
  :: .binary (⟨.of KernelIdeal.main_call0_call0_v49, .of ReferenceIdeal.main_call0_call0_v49⟩ : Words) (⟨.of KernelIdeal.main_call0_call0_v51, .of ReferenceIdeal.main_call0_call0_v51⟩ : Words) (⟨.of KernelIdeal.main_call0_call0_v52, .of ReferenceIdeal.main_call0_call0_v52⟩ : Words) ori
  :: .binary (⟨.of KernelIdeal.main_call0_call0_v47, .of ReferenceIdeal.main_call0_call0_v47⟩ : Words) (⟨.of KernelIdeal.main_call0_call0_v52, .of ReferenceIdeal.main_call0_call0_v52⟩ : Words) (⟨.of KernelIdeal.main_call0_call0_v53, .of ReferenceIdeal.main_call0_call0_v53⟩ : Words) xori
  :: .binary (⟨.of KernelIdeal.main_call0_call0_v47, .of ReferenceIdeal.main_call0_call0_v47⟩ : Words) (⟨.of KernelIdeal.main_call0_call0_v53, .of ReferenceIdeal.main_call0_call0_v53⟩ : Words) (⟨.of KernelIdeal.main_call0_call0_v54, .of ReferenceIdeal.main_call0_call0_v54⟩ : Words) addi
  :: .nullary (⟨.of KernelIdeal.main_call0_call0_c_13, .of ReferenceIdeal.main_call0_call0_c_13⟩ : Word) (constantI S_ 32 16#32)
  :: .unary (⟨.of KernelIdeal.main_call0_call0_c_13, .of ReferenceIdeal.main_call0_call0_c_13⟩ : Word) (⟨.of KernelIdeal.main_call0_call0_v55, .of ReferenceIdeal.main_call0_call0_v55⟩ : Words) (broadcastInDim S16384x64 ![] bcast_S_S16384x64)
  :: .binary (⟨.of KernelIdeal.main_call0_call0_v53, .of ReferenceIdeal.main_call0_call0_v53⟩ : Words) (⟨.of KernelIdeal.main_call0_call0_v55, .of ReferenceIdeal.main_call0_call0_v55⟩ : Words) (⟨.of KernelIdeal.main_call0_call0_v56, .of ReferenceIdeal.main_call0_call0_v56⟩ : Words) Host.shli
  :: .nullary (⟨.of KernelIdeal.main_call0_call0_c_14, .of ReferenceIdeal.main_call0_call0_c_14⟩ : Word) (constantI S_ 32 16#32)
  :: .unary (⟨.of KernelIdeal.main_call0_call0_c_14, .of ReferenceIdeal.main_call0_call0_c_14⟩ : Word) (⟨.of KernelIdeal.main_call0_call0_v57, .of ReferenceIdeal.main_call0_call0_v57⟩ : Words) (broadcastInDim S16384x64 ![] bcast_S_S16384x64)
  :: .binary (⟨.of KernelIdeal.main_call0_call0_v53, .of ReferenceIdeal.main_call0_call0_v53⟩ : Words) (⟨.of KernelIdeal.main_call0_call0_v57, .of ReferenceIdeal.main_call0_call0_v57⟩ : Words) (⟨.of KernelIdeal.main_call0_call0_v58, .of ReferenceIdeal.main_call0_call0_v58⟩ : Words) Host.shrui
  :: .binary (⟨.of KernelIdeal.main_call0_call0_v56, .of ReferenceIdeal.main_call0_call0_v56⟩ : Words) (⟨.of KernelIdeal.main_call0_call0_v58, .of ReferenceIdeal.main_call0_call0_v58⟩ : Words) (⟨.of KernelIdeal.main_call0_call0_v59, .of ReferenceIdeal.main_call0_call0_v59⟩ : Words) ori
  :: .binary (⟨.of KernelIdeal.main_call0_call0_v54, .of ReferenceIdeal.main_call0_call0_v54⟩ : Words) (⟨.of KernelIdeal.main_call0_call0_v59, .of ReferenceIdeal.main_call0_call0_v59⟩ : Words) (⟨.of KernelIdeal.main_call0_call0_v60, .of ReferenceIdeal.main_call0_call0_v60⟩ : Words) xori
  :: .binary (⟨.of KernelIdeal.main_call0_call0_v54, .of ReferenceIdeal.main_call0_call0_v54⟩ : Words) (⟨.of KernelIdeal.main_call0_call0_v60, .of ReferenceIdeal.main_call0_call0_v60⟩ : Words) (⟨.of KernelIdeal.main_call0_call0_v61, .of ReferenceIdeal.main_call0_call0_v61⟩ : Words) addi
  :: .nullary (⟨.of KernelIdeal.main_call0_call0_c_15, .of ReferenceIdeal.main_call0_call0_c_15⟩ : Word) (constantI S_ 32 24#32)
  :: .unary (⟨.of KernelIdeal.main_call0_call0_c_15, .of ReferenceIdeal.main_call0_call0_c_15⟩ : Word) (⟨.of KernelIdeal.main_call0_call0_v62, .of ReferenceIdeal.main_call0_call0_v62⟩ : Words) (broadcastInDim S16384x64 ![] bcast_S_S16384x64)
  :: .binary (⟨.of KernelIdeal.main_call0_call0_v60, .of ReferenceIdeal.main_call0_call0_v60⟩ : Words) (⟨.of KernelIdeal.main_call0_call0_v62, .of ReferenceIdeal.main_call0_call0_v62⟩ : Words) (⟨.of KernelIdeal.main_call0_call0_v63, .of ReferenceIdeal.main_call0_call0_v63⟩ : Words) Host.shli
  :: .nullary (⟨.of KernelIdeal.main_call0_call0_c_16, .of ReferenceIdeal.main_call0_call0_c_16⟩ : Word) (constantI S_ 32 8#32)
  :: .unary (⟨.of KernelIdeal.main_call0_call0_c_16, .of ReferenceIdeal.main_call0_call0_c_16⟩ : Word) (⟨.of KernelIdeal.main_call0_call0_v64, .of ReferenceIdeal.main_call0_call0_v64⟩ : Words) (broadcastInDim S16384x64 ![] bcast_S_S16384x64)
  :: .binary (⟨.of KernelIdeal.main_call0_call0_v60, .of ReferenceIdeal.main_call0_call0_v60⟩ : Words) (⟨.of KernelIdeal.main_call0_call0_v64, .of ReferenceIdeal.main_call0_call0_v64⟩ : Words) (⟨.of KernelIdeal.main_call0_call0_v65, .of ReferenceIdeal.main_call0_call0_v65⟩ : Words) Host.shrui
  :: .binary (⟨.of KernelIdeal.main_call0_call0_v63, .of ReferenceIdeal.main_call0_call0_v63⟩ : Words) (⟨.of KernelIdeal.main_call0_call0_v65, .of ReferenceIdeal.main_call0_call0_v65⟩ : Words) (⟨.of KernelIdeal.main_call0_call0_v66, .of ReferenceIdeal.main_call0_call0_v66⟩ : Words) ori
  :: .binary (⟨.of KernelIdeal.main_call0_call0_v61, .of ReferenceIdeal.main_call0_call0_v61⟩ : Words) (⟨.of KernelIdeal.main_call0_call0_v66, .of ReferenceIdeal.main_call0_call0_v66⟩ : Words) (⟨.of KernelIdeal.main_call0_call0_v67, .of ReferenceIdeal.main_call0_call0_v67⟩ : Words) xori
  :: .unary (⟨.of KernelIdeal.main_call0_call0_v1, .of ReferenceIdeal.main_call0_call0_v1⟩ : Word) (⟨.of KernelIdeal.main_call0_call0_v68, .of ReferenceIdeal.main_call0_call0_v68⟩ : Words) (broadcastInDim S16384x64 ![] bcast_S_S16384x64)
  :: .binary (⟨.of KernelIdeal.main_call0_call0_v61, .of ReferenceIdeal.main_call0_call0_v61⟩ : Words) (⟨.of KernelIdeal.main_call0_call0_v68, .of ReferenceIdeal.main_call0_call0_v68⟩ : Words) (⟨.of KernelIdeal.main_call0_call0_v69, .of ReferenceIdeal.main_call0_call0_v69⟩ : Words) addi
  :: .unary (⟨.of KernelIdeal.main_call0_v5, .of ReferenceIdeal.main_call0_v5⟩ : Word) (⟨.of KernelIdeal.main_call0_call0_v70, .of ReferenceIdeal.main_call0_call0_v70⟩ : Words) (broadcastInDim S16384x64 ![] bcast_S_S16384x64)
  :: .binary (⟨.of KernelIdeal.main_call0_call0_v67, .of ReferenceIdeal.main_call0_call0_v67⟩ : Words) (⟨.of KernelIdeal.main_call0_call0_v70, .of ReferenceIdeal.main_call0_call0_v70⟩ : Words) (⟨.of KernelIdeal.main_call0_call0_v71, .of ReferenceIdeal.main_call0_call0_v71⟩ : Words) addi
  :: .nullary (⟨.of KernelIdeal.main_call0_call0_c_17, .of ReferenceIdeal.main_call0_call0_c_17⟩ : Word) (constantI S_ 32 2#32)
  :: .unary (⟨.of KernelIdeal.main_call0_call0_c_17, .of ReferenceIdeal.main_call0_call0_c_17⟩ : Word) (⟨.of KernelIdeal.main_call0_call0_v72, .of ReferenceIdeal.main_call0_call0_v72⟩ : Words) (broadcastInDim S16384x64 ![] bcast_S_S16384x64)
  :: .binary (⟨.of KernelIdeal.main_call0_call0_v71, .of ReferenceIdeal.main_call0_call0_v71⟩ : Words) (⟨.of KernelIdeal.main_call0_call0_v72, .of ReferenceIdeal.main_call0_call0_v72⟩ : Words) (⟨.of KernelIdeal.main_call0_call0_v73, .of ReferenceIdeal.main_call0_call0_v73⟩ : Words) addi
  :: .binary (⟨.of KernelIdeal.main_call0_call0_v69, .of ReferenceIdeal.main_call0_call0_v69⟩ : Words) (⟨.of KernelIdeal.main_call0_call0_v73, .of ReferenceIdeal.main_call0_call0_v73⟩ : Words) (⟨.of KernelIdeal.main_call0_call0_v74, .of ReferenceIdeal.main_call0_call0_v74⟩ : Words) addi
  :: .nullary (⟨.of KernelIdeal.main_call0_call0_c_18, .of ReferenceIdeal.main_call0_call0_c_18⟩ : Word) (constantI S_ 32 13#32)
  :: .unary (⟨.of KernelIdeal.main_call0_call0_c_18, .of ReferenceIdeal.main_call0_call0_c_18⟩ : Word) (⟨.of KernelIdeal.main_call0_call0_v75, .of ReferenceIdeal.main_call0_call0_v75⟩ : Words) (broadcastInDim S16384x64 ![] bcast_S_S16384x64)
  :: .binary (⟨.of KernelIdeal.main_call0_call0_v73, .of ReferenceIdeal.main_call0_call0_v73⟩ : Words) (⟨.of KernelIdeal.main_call0_call0_v75, .of ReferenceIdeal.main_call0_call0_v75⟩ : Words) (⟨.of KernelIdeal.main_call0_call0_v76, .of ReferenceIdeal.main_call0_call0_v76⟩ : Words) Host.shli
  :: .nullary (⟨.of KernelIdeal.main_call0_call0_c_19, .of ReferenceIdeal.main_call0_call0_c_19⟩ : Word) (constantI S_ 32 19#32)
  :: []

set_option maxHeartbeats 40000000 in
/-- The draw, part 3 of 4. -/
noncomputable def draw2 : List Op :=
  .unary (⟨.of KernelIdeal.main_call0_call0_c_19, .of ReferenceIdeal.main_call0_call0_c_19⟩ : Word) (⟨.of KernelIdeal.main_call0_call0_v77, .of ReferenceIdeal.main_call0_call0_v77⟩ : Words) (broadcastInDim S16384x64 ![] bcast_S_S16384x64)
  :: .binary (⟨.of KernelIdeal.main_call0_call0_v73, .of ReferenceIdeal.main_call0_call0_v73⟩ : Words) (⟨.of KernelIdeal.main_call0_call0_v77, .of ReferenceIdeal.main_call0_call0_v77⟩ : Words) (⟨.of KernelIdeal.main_call0_call0_v78, .of ReferenceIdeal.main_call0_call0_v78⟩ : Words) Host.shrui
  :: .binary (⟨.of KernelIdeal.main_call0_call0_v76, .of ReferenceIdeal.main_call0_call0_v76⟩ : Words) (⟨.of KernelIdeal.main_call0_call0_v78, .of ReferenceIdeal.main_call0_call0_v78⟩ : Words) (⟨.of KernelIdeal.main_call0_call0_v79, .of ReferenceIdeal.main_call0_call0_v79⟩ : Words) ori
  :: .binary (⟨.of KernelIdeal.main_call0_call0_v74, .of ReferenceIdeal.main_call0_call0_v74⟩ : Words) (⟨.of KernelIdeal.main_call0_call0_v79, .of ReferenceIdeal.main_call0_call0_v79⟩ : Words) (⟨.of KernelIdeal.main_call0_call0_v80, .of ReferenceIdeal.main_call0_call0_v80⟩ : Words) xori
  :: .binary (⟨.of KernelIdeal.main_call0_call0_v74, .of ReferenceIdeal.main_call0_call0_v74⟩ : Words) (⟨.of KernelIdeal.main_call0_call0_v80, .of ReferenceIdeal.main_call0_call0_v80⟩ : Words) (⟨.of KernelIdeal.main_call0_call0_v81, .of ReferenceIdeal.main_call0_call0_v81⟩ : Words) addi
  :: .nullary (⟨.of KernelIdeal.main_call0_call0_c_20, .of ReferenceIdeal.main_call0_call0_c_20⟩ : Word) (constantI S_ 32 15#32)
  :: .unary (⟨.of KernelIdeal.main_call0_call0_c_20, .of ReferenceIdeal.main_call0_call0_c_20⟩ : Word) (⟨.of KernelIdeal.main_call0_call0_v82, .of ReferenceIdeal.main_call0_call0_v82⟩ : Words) (broadcastInDim S16384x64 ![] bcast_S_S16384x64)
  :: .binary (⟨.of KernelIdeal.main_call0_call0_v80, .of ReferenceIdeal.main_call0_call0_v80⟩ : Words) (⟨.of KernelIdeal.main_call0_call0_v82, .of ReferenceIdeal.main_call0_call0_v82⟩ : Words) (⟨.of KernelIdeal.main_call0_call0_v83, .of ReferenceIdeal.main_call0_call0_v83⟩ : Words) Host.shli
  :: .nullary (⟨.of KernelIdeal.main_call0_call0_c_21, .of ReferenceIdeal.main_call0_call0_c_21⟩ : Word) (constantI S_ 32 17#32)
  :: .unary (⟨.of KernelIdeal.main_call0_call0_c_21, .of ReferenceIdeal.main_call0_call0_c_21⟩ : Word) (⟨.of KernelIdeal.main_call0_call0_v84, .of ReferenceIdeal.main_call0_call0_v84⟩ : Words) (broadcastInDim S16384x64 ![] bcast_S_S16384x64)
  :: .binary (⟨.of KernelIdeal.main_call0_call0_v80, .of ReferenceIdeal.main_call0_call0_v80⟩ : Words) (⟨.of KernelIdeal.main_call0_call0_v84, .of ReferenceIdeal.main_call0_call0_v84⟩ : Words) (⟨.of KernelIdeal.main_call0_call0_v85, .of ReferenceIdeal.main_call0_call0_v85⟩ : Words) Host.shrui
  :: .binary (⟨.of KernelIdeal.main_call0_call0_v83, .of ReferenceIdeal.main_call0_call0_v83⟩ : Words) (⟨.of KernelIdeal.main_call0_call0_v85, .of ReferenceIdeal.main_call0_call0_v85⟩ : Words) (⟨.of KernelIdeal.main_call0_call0_v86, .of ReferenceIdeal.main_call0_call0_v86⟩ : Words) ori
  :: .binary (⟨.of KernelIdeal.main_call0_call0_v81, .of ReferenceIdeal.main_call0_call0_v81⟩ : Words) (⟨.of KernelIdeal.main_call0_call0_v86, .of ReferenceIdeal.main_call0_call0_v86⟩ : Words) (⟨.of KernelIdeal.main_call0_call0_v87, .of ReferenceIdeal.main_call0_call0_v87⟩ : Words) xori
  :: .binary (⟨.of KernelIdeal.main_call0_call0_v81, .of ReferenceIdeal.main_call0_call0_v81⟩ : Words) (⟨.of KernelIdeal.main_call0_call0_v87, .of ReferenceIdeal.main_call0_call0_v87⟩ : Words) (⟨.of KernelIdeal.main_call0_call0_v88, .of ReferenceIdeal.main_call0_call0_v88⟩ : Words) addi
  :: .nullary (⟨.of KernelIdeal.main_call0_call0_c_22, .of ReferenceIdeal.main_call0_call0_c_22⟩ : Word) (constantI S_ 32 26#32)
  :: .unary (⟨.of KernelIdeal.main_call0_call0_c_22, .of ReferenceIdeal.main_call0_call0_c_22⟩ : Word) (⟨.of KernelIdeal.main_call0_call0_v89, .of ReferenceIdeal.main_call0_call0_v89⟩ : Words) (broadcastInDim S16384x64 ![] bcast_S_S16384x64)
  :: .binary (⟨.of KernelIdeal.main_call0_call0_v87, .of ReferenceIdeal.main_call0_call0_v87⟩ : Words) (⟨.of KernelIdeal.main_call0_call0_v89, .of ReferenceIdeal.main_call0_call0_v89⟩ : Words) (⟨.of KernelIdeal.main_call0_call0_v90, .of ReferenceIdeal.main_call0_call0_v90⟩ : Words) Host.shli
  :: .nullary (⟨.of KernelIdeal.main_call0_call0_c_23, .of ReferenceIdeal.main_call0_call0_c_23⟩ : Word) (constantI S_ 32 6#32)
  :: .unary (⟨.of KernelIdeal.main_call0_call0_c_23, .of ReferenceIdeal.main_call0_call0_c_23⟩ : Word) (⟨.of KernelIdeal.main_call0_call0_v91, .of ReferenceIdeal.main_call0_call0_v91⟩ : Words) (broadcastInDim S16384x64 ![] bcast_S_S16384x64)
  :: .binary (⟨.of KernelIdeal.main_call0_call0_v87, .of ReferenceIdeal.main_call0_call0_v87⟩ : Words) (⟨.of KernelIdeal.main_call0_call0_v91, .of ReferenceIdeal.main_call0_call0_v91⟩ : Words) (⟨.of KernelIdeal.main_call0_call0_v92, .of ReferenceIdeal.main_call0_call0_v92⟩ : Words) Host.shrui
  :: .binary (⟨.of KernelIdeal.main_call0_call0_v90, .of ReferenceIdeal.main_call0_call0_v90⟩ : Words) (⟨.of KernelIdeal.main_call0_call0_v92, .of ReferenceIdeal.main_call0_call0_v92⟩ : Words) (⟨.of KernelIdeal.main_call0_call0_v93, .of ReferenceIdeal.main_call0_call0_v93⟩ : Words) ori
  :: .binary (⟨.of KernelIdeal.main_call0_call0_v88, .of ReferenceIdeal.main_call0_call0_v88⟩ : Words) (⟨.of KernelIdeal.main_call0_call0_v93, .of ReferenceIdeal.main_call0_call0_v93⟩ : Words) (⟨.of KernelIdeal.main_call0_call0_v94, .of ReferenceIdeal.main_call0_call0_v94⟩ : Words) xori
  :: .binary (⟨.of KernelIdeal.main_call0_call0_v88, .of ReferenceIdeal.main_call0_call0_v88⟩ : Words) (⟨.of KernelIdeal.main_call0_call0_v94, .of ReferenceIdeal.main_call0_call0_v94⟩ : Words) (⟨.of KernelIdeal.main_call0_call0_v95, .of ReferenceIdeal.main_call0_call0_v95⟩ : Words) addi
  :: .nullary (⟨.of KernelIdeal.main_call0_call0_c_24, .of ReferenceIdeal.main_call0_call0_c_24⟩ : Word) (constantI S_ 32 6#32)
  :: .unary (⟨.of KernelIdeal.main_call0_call0_c_24, .of ReferenceIdeal.main_call0_call0_c_24⟩ : Word) (⟨.of KernelIdeal.main_call0_call0_v96, .of ReferenceIdeal.main_call0_call0_v96⟩ : Words) (broadcastInDim S16384x64 ![] bcast_S_S16384x64)
  :: .binary (⟨.of KernelIdeal.main_call0_call0_v94, .of ReferenceIdeal.main_call0_call0_v94⟩ : Words) (⟨.of KernelIdeal.main_call0_call0_v96, .of ReferenceIdeal.main_call0_call0_v96⟩ : Words) (⟨.of KernelIdeal.main_call0_call0_v97, .of ReferenceIdeal.main_call0_call0_v97⟩ : Words) Host.shli
  :: .nullary (⟨.of KernelIdeal.main_call0_call0_c_25, .of ReferenceIdeal.main_call0_call0_c_25⟩ : Word) (constantI S_ 32 26#32)
  :: .unary (⟨.of KernelIdeal.main_call0_call0_c_25, .of ReferenceIdeal.main_call0_call0_c_25⟩ : Word) (⟨.of KernelIdeal.main_call0_call0_v98, .of ReferenceIdeal.main_call0_call0_v98⟩ : Words) (broadcastInDim S16384x64 ![] bcast_S_S16384x64)
  :: .binary (⟨.of KernelIdeal.main_call0_call0_v94, .of ReferenceIdeal.main_call0_call0_v94⟩ : Words) (⟨.of KernelIdeal.main_call0_call0_v98, .of ReferenceIdeal.main_call0_call0_v98⟩ : Words) (⟨.of KernelIdeal.main_call0_call0_v99, .of ReferenceIdeal.main_call0_call0_v99⟩ : Words) Host.shrui
  :: .binary (⟨.of KernelIdeal.main_call0_call0_v97, .of ReferenceIdeal.main_call0_call0_v97⟩ : Words) (⟨.of KernelIdeal.main_call0_call0_v99, .of ReferenceIdeal.main_call0_call0_v99⟩ : Words) (⟨.of KernelIdeal.main_call0_call0_v100, .of ReferenceIdeal.main_call0_call0_v100⟩ : Words) ori
  :: .binary (⟨.of KernelIdeal.main_call0_call0_v95, .of ReferenceIdeal.main_call0_call0_v95⟩ : Words) (⟨.of KernelIdeal.main_call0_call0_v100, .of ReferenceIdeal.main_call0_call0_v100⟩ : Words) (⟨.of KernelIdeal.main_call0_call0_v101, .of ReferenceIdeal.main_call0_call0_v101⟩ : Words) xori
  :: .unary (⟨.of KernelIdeal.main_call0_v5, .of ReferenceIdeal.main_call0_v5⟩ : Word) (⟨.of KernelIdeal.main_call0_call0_v102, .of ReferenceIdeal.main_call0_call0_v102⟩ : Words) (broadcastInDim S16384x64 ![] bcast_S_S16384x64)
  :: .binary (⟨.of KernelIdeal.main_call0_call0_v95, .of ReferenceIdeal.main_call0_call0_v95⟩ : Words) (⟨.of KernelIdeal.main_call0_call0_v102, .of ReferenceIdeal.main_call0_call0_v102⟩ : Words) (⟨.of KernelIdeal.main_call0_call0_v103, .of ReferenceIdeal.main_call0_call0_v103⟩ : Words) addi
  :: .unary (⟨.of KernelIdeal.main_call0_v7, .of ReferenceIdeal.main_call0_v7⟩ : Word) (⟨.of KernelIdeal.main_call0_call0_v104, .of ReferenceIdeal.main_call0_call0_v104⟩ : Words) (broadcastInDim S16384x64 ![] bcast_S_S16384x64)
  :: .binary (⟨.of KernelIdeal.main_call0_call0_v101, .of ReferenceIdeal.main_call0_call0_v101⟩ : Words) (⟨.of KernelIdeal.main_call0_call0_v104, .of ReferenceIdeal.main_call0_call0_v104⟩ : Words) (⟨.of KernelIdeal.main_call0_call0_v105, .of ReferenceIdeal.main_call0_call0_v105⟩ : Words) addi
  :: .nullary (⟨.of KernelIdeal.main_call0_call0_c_26, .of ReferenceIdeal.main_call0_call0_c_26⟩ : Word) (constantI S_ 32 3#32)
  :: .unary (⟨.of KernelIdeal.main_call0_call0_c_26, .of ReferenceIdeal.main_call0_call0_c_26⟩ : Word) (⟨.of KernelIdeal.main_call0_call0_v106, .of ReferenceIdeal.main_call0_call0_v106⟩ : Words) (broadcastInDim S16384x64 ![] bcast_S_S16384x64)
  :: .binary (⟨.of KernelIdeal.main_call0_call0_v105, .of ReferenceIdeal.main_call0_call0_v105⟩ : Words) (⟨.of KernelIdeal.main_call0_call0_v106, .of ReferenceIdeal.main_call0_call0_v106⟩ : Words) (⟨.of KernelIdeal.main_call0_call0_v107, .of ReferenceIdeal.main_call0_call0_v107⟩ : Words) addi
  :: .binary (⟨.of KernelIdeal.main_call0_call0_v103, .of ReferenceIdeal.main_call0_call0_v103⟩ : Words) (⟨.of KernelIdeal.main_call0_call0_v107, .of ReferenceIdeal.main_call0_call0_v107⟩ : Words) (⟨.of KernelIdeal.main_call0_call0_v108, .of ReferenceIdeal.main_call0_call0_v108⟩ : Words) addi
  :: .nullary (⟨.of KernelIdeal.main_call0_call0_c_27, .of ReferenceIdeal.main_call0_call0_c_27⟩ : Word) (constantI S_ 32 17#32)
  :: .unary (⟨.of KernelIdeal.main_call0_call0_c_27, .of ReferenceIdeal.main_call0_call0_c_27⟩ : Word) (⟨.of KernelIdeal.main_call0_call0_v109, .of ReferenceIdeal.main_call0_call0_v109⟩ : Words) (broadcastInDim S16384x64 ![] bcast_S_S16384x64)
  :: .binary (⟨.of KernelIdeal.main_call0_call0_v107, .of ReferenceIdeal.main_call0_call0_v107⟩ : Words) (⟨.of KernelIdeal.main_call0_call0_v109, .of ReferenceIdeal.main_call0_call0_v109⟩ : Words) (⟨.of KernelIdeal.main_call0_call0_v110, .of ReferenceIdeal.main_call0_call0_v110⟩ : Words) Host.shli
  :: .nullary (⟨.of KernelIdeal.main_call0_call0_c_28, .of ReferenceIdeal.main_call0_call0_c_28⟩ : Word) (constantI S_ 32 15#32)
  :: .unary (⟨.of KernelIdeal.main_call0_call0_c_28, .of ReferenceIdeal.main_call0_call0_c_28⟩ : Word) (⟨.of KernelIdeal.main_call0_call0_v111, .of ReferenceIdeal.main_call0_call0_v111⟩ : Words) (broadcastInDim S16384x64 ![] bcast_S_S16384x64)
  :: .binary (⟨.of KernelIdeal.main_call0_call0_v107, .of ReferenceIdeal.main_call0_call0_v107⟩ : Words) (⟨.of KernelIdeal.main_call0_call0_v111, .of ReferenceIdeal.main_call0_call0_v111⟩ : Words) (⟨.of KernelIdeal.main_call0_call0_v112, .of ReferenceIdeal.main_call0_call0_v112⟩ : Words) Host.shrui
  :: .binary (⟨.of KernelIdeal.main_call0_call0_v110, .of ReferenceIdeal.main_call0_call0_v110⟩ : Words) (⟨.of KernelIdeal.main_call0_call0_v112, .of ReferenceIdeal.main_call0_call0_v112⟩ : Words) (⟨.of KernelIdeal.main_call0_call0_v113, .of ReferenceIdeal.main_call0_call0_v113⟩ : Words) ori
  :: .binary (⟨.of KernelIdeal.main_call0_call0_v108, .of ReferenceIdeal.main_call0_call0_v108⟩ : Words) (⟨.of KernelIdeal.main_call0_call0_v113, .of ReferenceIdeal.main_call0_call0_v113⟩ : Words) (⟨.of KernelIdeal.main_call0_call0_v114, .of ReferenceIdeal.main_call0_call0_v114⟩ : Words) xori
  :: .binary (⟨.of KernelIdeal.main_call0_call0_v108, .of ReferenceIdeal.main_call0_call0_v108⟩ : Words) (⟨.of KernelIdeal.main_call0_call0_v114, .of ReferenceIdeal.main_call0_call0_v114⟩ : Words) (⟨.of KernelIdeal.main_call0_call0_v115, .of ReferenceIdeal.main_call0_call0_v115⟩ : Words) addi
  :: .nullary (⟨.of KernelIdeal.main_call0_call0_c_29, .of ReferenceIdeal.main_call0_call0_c_29⟩ : Word) (constantI S_ 32 29#32)
  :: .unary (⟨.of KernelIdeal.main_call0_call0_c_29, .of ReferenceIdeal.main_call0_call0_c_29⟩ : Word) (⟨.of KernelIdeal.main_call0_call0_v116, .of ReferenceIdeal.main_call0_call0_v116⟩ : Words) (broadcastInDim S16384x64 ![] bcast_S_S16384x64)
  :: .binary (⟨.of KernelIdeal.main_call0_call0_v114, .of ReferenceIdeal.main_call0_call0_v114⟩ : Words) (⟨.of KernelIdeal.main_call0_call0_v116, .of ReferenceIdeal.main_call0_call0_v116⟩ : Words) (⟨.of KernelIdeal.main_call0_call0_v117, .of ReferenceIdeal.main_call0_call0_v117⟩ : Words) Host.shli
  :: .nullary (⟨.of KernelIdeal.main_call0_call0_c_30, .of ReferenceIdeal.main_call0_call0_c_30⟩ : Word) (constantI S_ 32 3#32)
  :: .unary (⟨.of KernelIdeal.main_call0_call0_c_30, .of ReferenceIdeal.main_call0_call0_c_30⟩ : Word) (⟨.of KernelIdeal.main_call0_call0_v118, .of ReferenceIdeal.main_call0_call0_v118⟩ : Words) (broadcastInDim S16384x64 ![] bcast_S_S16384x64)
  :: .binary (⟨.of KernelIdeal.main_call0_call0_v114, .of ReferenceIdeal.main_call0_call0_v114⟩ : Words) (⟨.of KernelIdeal.main_call0_call0_v118, .of ReferenceIdeal.main_call0_call0_v118⟩ : Words) (⟨.of KernelIdeal.main_call0_call0_v119, .of ReferenceIdeal.main_call0_call0_v119⟩ : Words) Host.shrui
  :: .binary (⟨.of KernelIdeal.main_call0_call0_v117, .of ReferenceIdeal.main_call0_call0_v117⟩ : Words) (⟨.of KernelIdeal.main_call0_call0_v119, .of ReferenceIdeal.main_call0_call0_v119⟩ : Words) (⟨.of KernelIdeal.main_call0_call0_v120, .of ReferenceIdeal.main_call0_call0_v120⟩ : Words) ori
  :: .binary (⟨.of KernelIdeal.main_call0_call0_v115, .of ReferenceIdeal.main_call0_call0_v115⟩ : Words) (⟨.of KernelIdeal.main_call0_call0_v120, .of ReferenceIdeal.main_call0_call0_v120⟩ : Words) (⟨.of KernelIdeal.main_call0_call0_v121, .of ReferenceIdeal.main_call0_call0_v121⟩ : Words) xori
  :: .binary (⟨.of KernelIdeal.main_call0_call0_v115, .of ReferenceIdeal.main_call0_call0_v115⟩ : Words) (⟨.of KernelIdeal.main_call0_call0_v121, .of ReferenceIdeal.main_call0_call0_v121⟩ : Words) (⟨.of KernelIdeal.main_call0_call0_v122, .of ReferenceIdeal.main_call0_call0_v122⟩ : Words) addi
  :: .nullary (⟨.of KernelIdeal.main_call0_call0_c_31, .of ReferenceIdeal.main_call0_call0_c_31⟩ : Word) (constantI S_ 32 16#32)
  :: .unary (⟨.of KernelIdeal.main_call0_call0_c_31, .of ReferenceIdeal.main_call0_call0_c_31⟩ : Word) (⟨.of KernelIdeal.main_call0_call0_v123, .of ReferenceIdeal.main_call0_call0_v123⟩ : Words) (broadcastInDim S16384x64 ![] bcast_S_S16384x64)
  :: .binary (⟨.of KernelIdeal.main_call0_call0_v121, .of ReferenceIdeal.main_call0_call0_v121⟩ : Words) (⟨.of KernelIdeal.main_call0_call0_v123, .of ReferenceIdeal.main_call0_call0_v123⟩ : Words) (⟨.of KernelIdeal.main_call0_call0_v124, .of ReferenceIdeal.main_call0_call0_v124⟩ : Words) Host.shli
  :: []

set_option maxHeartbeats 40000000 in
/-- The draw, part 4 of 4. -/
noncomputable def draw3 : List Op :=
  .nullary (⟨.of KernelIdeal.main_call0_call0_c_32, .of ReferenceIdeal.main_call0_call0_c_32⟩ : Word) (constantI S_ 32 16#32)
  :: .unary (⟨.of KernelIdeal.main_call0_call0_c_32, .of ReferenceIdeal.main_call0_call0_c_32⟩ : Word) (⟨.of KernelIdeal.main_call0_call0_v125, .of ReferenceIdeal.main_call0_call0_v125⟩ : Words) (broadcastInDim S16384x64 ![] bcast_S_S16384x64)
  :: .binary (⟨.of KernelIdeal.main_call0_call0_v121, .of ReferenceIdeal.main_call0_call0_v121⟩ : Words) (⟨.of KernelIdeal.main_call0_call0_v125, .of ReferenceIdeal.main_call0_call0_v125⟩ : Words) (⟨.of KernelIdeal.main_call0_call0_v126, .of ReferenceIdeal.main_call0_call0_v126⟩ : Words) Host.shrui
  :: .binary (⟨.of KernelIdeal.main_call0_call0_v124, .of ReferenceIdeal.main_call0_call0_v124⟩ : Words) (⟨.of KernelIdeal.main_call0_call0_v126, .of ReferenceIdeal.main_call0_call0_v126⟩ : Words) (⟨.of KernelIdeal.main_call0_call0_v127, .of ReferenceIdeal.main_call0_call0_v127⟩ : Words) ori
  :: .binary (⟨.of KernelIdeal.main_call0_call0_v122, .of ReferenceIdeal.main_call0_call0_v122⟩ : Words) (⟨.of KernelIdeal.main_call0_call0_v127, .of ReferenceIdeal.main_call0_call0_v127⟩ : Words) (⟨.of KernelIdeal.main_call0_call0_v128, .of ReferenceIdeal.main_call0_call0_v128⟩ : Words) xori
  :: .binary (⟨.of KernelIdeal.main_call0_call0_v122, .of ReferenceIdeal.main_call0_call0_v122⟩ : Words) (⟨.of KernelIdeal.main_call0_call0_v128, .of ReferenceIdeal.main_call0_call0_v128⟩ : Words) (⟨.of KernelIdeal.main_call0_call0_v129, .of ReferenceIdeal.main_call0_call0_v129⟩ : Words) addi
  :: .nullary (⟨.of KernelIdeal.main_call0_call0_c_33, .of ReferenceIdeal.main_call0_call0_c_33⟩ : Word) (constantI S_ 32 24#32)
  :: .unary (⟨.of KernelIdeal.main_call0_call0_c_33, .of ReferenceIdeal.main_call0_call0_c_33⟩ : Word) (⟨.of KernelIdeal.main_call0_call0_v130, .of ReferenceIdeal.main_call0_call0_v130⟩ : Words) (broadcastInDim S16384x64 ![] bcast_S_S16384x64)
  :: .binary (⟨.of KernelIdeal.main_call0_call0_v128, .of ReferenceIdeal.main_call0_call0_v128⟩ : Words) (⟨.of KernelIdeal.main_call0_call0_v130, .of ReferenceIdeal.main_call0_call0_v130⟩ : Words) (⟨.of KernelIdeal.main_call0_call0_v131, .of ReferenceIdeal.main_call0_call0_v131⟩ : Words) Host.shli
  :: .nullary (⟨.of KernelIdeal.main_call0_call0_c_34, .of ReferenceIdeal.main_call0_call0_c_34⟩ : Word) (constantI S_ 32 8#32)
  :: .unary (⟨.of KernelIdeal.main_call0_call0_c_34, .of ReferenceIdeal.main_call0_call0_c_34⟩ : Word) (⟨.of KernelIdeal.main_call0_call0_v132, .of ReferenceIdeal.main_call0_call0_v132⟩ : Words) (broadcastInDim S16384x64 ![] bcast_S_S16384x64)
  :: .binary (⟨.of KernelIdeal.main_call0_call0_v128, .of ReferenceIdeal.main_call0_call0_v128⟩ : Words) (⟨.of KernelIdeal.main_call0_call0_v132, .of ReferenceIdeal.main_call0_call0_v132⟩ : Words) (⟨.of KernelIdeal.main_call0_call0_v133, .of ReferenceIdeal.main_call0_call0_v133⟩ : Words) Host.shrui
  :: .binary (⟨.of KernelIdeal.main_call0_call0_v131, .of ReferenceIdeal.main_call0_call0_v131⟩ : Words) (⟨.of KernelIdeal.main_call0_call0_v133, .of ReferenceIdeal.main_call0_call0_v133⟩ : Words) (⟨.of KernelIdeal.main_call0_call0_v134, .of ReferenceIdeal.main_call0_call0_v134⟩ : Words) ori
  :: .binary (⟨.of KernelIdeal.main_call0_call0_v129, .of ReferenceIdeal.main_call0_call0_v129⟩ : Words) (⟨.of KernelIdeal.main_call0_call0_v134, .of ReferenceIdeal.main_call0_call0_v134⟩ : Words) (⟨.of KernelIdeal.main_call0_call0_v135, .of ReferenceIdeal.main_call0_call0_v135⟩ : Words) xori
  :: .unary (⟨.of KernelIdeal.main_call0_v7, .of ReferenceIdeal.main_call0_v7⟩ : Word) (⟨.of KernelIdeal.main_call0_call0_v136, .of ReferenceIdeal.main_call0_call0_v136⟩ : Words) (broadcastInDim S16384x64 ![] bcast_S_S16384x64)
  :: .binary (⟨.of KernelIdeal.main_call0_call0_v129, .of ReferenceIdeal.main_call0_call0_v129⟩ : Words) (⟨.of KernelIdeal.main_call0_call0_v136, .of ReferenceIdeal.main_call0_call0_v136⟩ : Words) (⟨.of KernelIdeal.main_call0_call0_v137, .of ReferenceIdeal.main_call0_call0_v137⟩ : Words) addi
  :: .unary (⟨.of KernelIdeal.main_call0_call0_v1, .of ReferenceIdeal.main_call0_call0_v1⟩ : Word) (⟨.of KernelIdeal.main_call0_call0_v138, .of ReferenceIdeal.main_call0_call0_v138⟩ : Words) (broadcastInDim S16384x64 ![] bcast_S_S16384x64)
  :: .binary (⟨.of KernelIdeal.main_call0_call0_v135, .of ReferenceIdeal.main_call0_call0_v135⟩ : Words) (⟨.of KernelIdeal.main_call0_call0_v138, .of ReferenceIdeal.main_call0_call0_v138⟩ : Words) (⟨.of KernelIdeal.main_call0_call0_v139, .of ReferenceIdeal.main_call0_call0_v139⟩ : Words) addi
  :: .nullary (⟨.of KernelIdeal.main_call0_call0_c_35, .of ReferenceIdeal.main_call0_call0_c_35⟩ : Word) (constantI S_ 32 4#32)
  :: .unary (⟨.of KernelIdeal.main_call0_call0_c_35, .of ReferenceIdeal.main_call0_call0_c_35⟩ : Word) (⟨.of KernelIdeal.main_call0_call0_v140, .of ReferenceIdeal.main_call0_call0_v140⟩ : Words) (broadcastInDim S16384x64 ![] bcast_S_S16384x64)
  :: .binary (⟨.of KernelIdeal.main_call0_call0_v139, .of ReferenceIdeal.main_call0_call0_v139⟩ : Words) (⟨.of KernelIdeal.main_call0_call0_v140, .of ReferenceIdeal.main_call0_call0_v140⟩ : Words) (⟨.of KernelIdeal.main_call0_call0_v141, .of ReferenceIdeal.main_call0_call0_v141⟩ : Words) addi
  :: .binary (⟨.of KernelIdeal.main_call0_call0_v137, .of ReferenceIdeal.main_call0_call0_v137⟩ : Words) (⟨.of KernelIdeal.main_call0_call0_v141, .of ReferenceIdeal.main_call0_call0_v141⟩ : Words) (⟨.of KernelIdeal.main_call0_call0_v142, .of ReferenceIdeal.main_call0_call0_v142⟩ : Words) addi
  :: .nullary (⟨.of KernelIdeal.main_call0_call0_c_36, .of ReferenceIdeal.main_call0_call0_c_36⟩ : Word) (constantI S_ 32 13#32)
  :: .unary (⟨.of KernelIdeal.main_call0_call0_c_36, .of ReferenceIdeal.main_call0_call0_c_36⟩ : Word) (⟨.of KernelIdeal.main_call0_call0_v143, .of ReferenceIdeal.main_call0_call0_v143⟩ : Words) (broadcastInDim S16384x64 ![] bcast_S_S16384x64)
  :: .binary (⟨.of KernelIdeal.main_call0_call0_v141, .of ReferenceIdeal.main_call0_call0_v141⟩ : Words) (⟨.of KernelIdeal.main_call0_call0_v143, .of ReferenceIdeal.main_call0_call0_v143⟩ : Words) (⟨.of KernelIdeal.main_call0_call0_v144, .of ReferenceIdeal.main_call0_call0_v144⟩ : Words) Host.shli
  :: .nullary (⟨.of KernelIdeal.main_call0_call0_c_37, .of ReferenceIdeal.main_call0_call0_c_37⟩ : Word) (constantI S_ 32 19#32)
  :: .unary (⟨.of KernelIdeal.main_call0_call0_c_37, .of ReferenceIdeal.main_call0_call0_c_37⟩ : Word) (⟨.of KernelIdeal.main_call0_call0_v145, .of ReferenceIdeal.main_call0_call0_v145⟩ : Words) (broadcastInDim S16384x64 ![] bcast_S_S16384x64)
  :: .binary (⟨.of KernelIdeal.main_call0_call0_v141, .of ReferenceIdeal.main_call0_call0_v141⟩ : Words) (⟨.of KernelIdeal.main_call0_call0_v145, .of ReferenceIdeal.main_call0_call0_v145⟩ : Words) (⟨.of KernelIdeal.main_call0_call0_v146, .of ReferenceIdeal.main_call0_call0_v146⟩ : Words) Host.shrui
  :: .binary (⟨.of KernelIdeal.main_call0_call0_v144, .of ReferenceIdeal.main_call0_call0_v144⟩ : Words) (⟨.of KernelIdeal.main_call0_call0_v146, .of ReferenceIdeal.main_call0_call0_v146⟩ : Words) (⟨.of KernelIdeal.main_call0_call0_v147, .of ReferenceIdeal.main_call0_call0_v147⟩ : Words) ori
  :: .binary (⟨.of KernelIdeal.main_call0_call0_v142, .of ReferenceIdeal.main_call0_call0_v142⟩ : Words) (⟨.of KernelIdeal.main_call0_call0_v147, .of ReferenceIdeal.main_call0_call0_v147⟩ : Words) (⟨.of KernelIdeal.main_call0_call0_v148, .of ReferenceIdeal.main_call0_call0_v148⟩ : Words) xori
  :: .binary (⟨.of KernelIdeal.main_call0_call0_v142, .of ReferenceIdeal.main_call0_call0_v142⟩ : Words) (⟨.of KernelIdeal.main_call0_call0_v148, .of ReferenceIdeal.main_call0_call0_v148⟩ : Words) (⟨.of KernelIdeal.main_call0_call0_v149, .of ReferenceIdeal.main_call0_call0_v149⟩ : Words) addi
  :: .nullary (⟨.of KernelIdeal.main_call0_call0_c_38, .of ReferenceIdeal.main_call0_call0_c_38⟩ : Word) (constantI S_ 32 15#32)
  :: .unary (⟨.of KernelIdeal.main_call0_call0_c_38, .of ReferenceIdeal.main_call0_call0_c_38⟩ : Word) (⟨.of KernelIdeal.main_call0_call0_v150, .of ReferenceIdeal.main_call0_call0_v150⟩ : Words) (broadcastInDim S16384x64 ![] bcast_S_S16384x64)
  :: .binary (⟨.of KernelIdeal.main_call0_call0_v148, .of ReferenceIdeal.main_call0_call0_v148⟩ : Words) (⟨.of KernelIdeal.main_call0_call0_v150, .of ReferenceIdeal.main_call0_call0_v150⟩ : Words) (⟨.of KernelIdeal.main_call0_call0_v151, .of ReferenceIdeal.main_call0_call0_v151⟩ : Words) Host.shli
  :: .nullary (⟨.of KernelIdeal.main_call0_call0_c_39, .of ReferenceIdeal.main_call0_call0_c_39⟩ : Word) (constantI S_ 32 17#32)
  :: .unary (⟨.of KernelIdeal.main_call0_call0_c_39, .of ReferenceIdeal.main_call0_call0_c_39⟩ : Word) (⟨.of KernelIdeal.main_call0_call0_v152, .of ReferenceIdeal.main_call0_call0_v152⟩ : Words) (broadcastInDim S16384x64 ![] bcast_S_S16384x64)
  :: .binary (⟨.of KernelIdeal.main_call0_call0_v148, .of ReferenceIdeal.main_call0_call0_v148⟩ : Words) (⟨.of KernelIdeal.main_call0_call0_v152, .of ReferenceIdeal.main_call0_call0_v152⟩ : Words) (⟨.of KernelIdeal.main_call0_call0_v153, .of ReferenceIdeal.main_call0_call0_v153⟩ : Words) Host.shrui
  :: .binary (⟨.of KernelIdeal.main_call0_call0_v151, .of ReferenceIdeal.main_call0_call0_v151⟩ : Words) (⟨.of KernelIdeal.main_call0_call0_v153, .of ReferenceIdeal.main_call0_call0_v153⟩ : Words) (⟨.of KernelIdeal.main_call0_call0_v154, .of ReferenceIdeal.main_call0_call0_v154⟩ : Words) ori
  :: .binary (⟨.of KernelIdeal.main_call0_call0_v149, .of ReferenceIdeal.main_call0_call0_v149⟩ : Words) (⟨.of KernelIdeal.main_call0_call0_v154, .of ReferenceIdeal.main_call0_call0_v154⟩ : Words) (⟨.of KernelIdeal.main_call0_call0_v155, .of ReferenceIdeal.main_call0_call0_v155⟩ : Words) xori
  :: .binary (⟨.of KernelIdeal.main_call0_call0_v149, .of ReferenceIdeal.main_call0_call0_v149⟩ : Words) (⟨.of KernelIdeal.main_call0_call0_v155, .of ReferenceIdeal.main_call0_call0_v155⟩ : Words) (⟨.of KernelIdeal.main_call0_call0_v156, .of ReferenceIdeal.main_call0_call0_v156⟩ : Words) addi
  :: .nullary (⟨.of KernelIdeal.main_call0_call0_c_40, .of ReferenceIdeal.main_call0_call0_c_40⟩ : Word) (constantI S_ 32 26#32)
  :: .unary (⟨.of KernelIdeal.main_call0_call0_c_40, .of ReferenceIdeal.main_call0_call0_c_40⟩ : Word) (⟨.of KernelIdeal.main_call0_call0_v157, .of ReferenceIdeal.main_call0_call0_v157⟩ : Words) (broadcastInDim S16384x64 ![] bcast_S_S16384x64)
  :: .binary (⟨.of KernelIdeal.main_call0_call0_v155, .of ReferenceIdeal.main_call0_call0_v155⟩ : Words) (⟨.of KernelIdeal.main_call0_call0_v157, .of ReferenceIdeal.main_call0_call0_v157⟩ : Words) (⟨.of KernelIdeal.main_call0_call0_v158, .of ReferenceIdeal.main_call0_call0_v158⟩ : Words) Host.shli
  :: .nullary (⟨.of KernelIdeal.main_call0_call0_c_41, .of ReferenceIdeal.main_call0_call0_c_41⟩ : Word) (constantI S_ 32 6#32)
  :: .unary (⟨.of KernelIdeal.main_call0_call0_c_41, .of ReferenceIdeal.main_call0_call0_c_41⟩ : Word) (⟨.of KernelIdeal.main_call0_call0_v159, .of ReferenceIdeal.main_call0_call0_v159⟩ : Words) (broadcastInDim S16384x64 ![] bcast_S_S16384x64)
  :: .binary (⟨.of KernelIdeal.main_call0_call0_v155, .of ReferenceIdeal.main_call0_call0_v155⟩ : Words) (⟨.of KernelIdeal.main_call0_call0_v159, .of ReferenceIdeal.main_call0_call0_v159⟩ : Words) (⟨.of KernelIdeal.main_call0_call0_v160, .of ReferenceIdeal.main_call0_call0_v160⟩ : Words) Host.shrui
  :: .binary (⟨.of KernelIdeal.main_call0_call0_v158, .of ReferenceIdeal.main_call0_call0_v158⟩ : Words) (⟨.of KernelIdeal.main_call0_call0_v160, .of ReferenceIdeal.main_call0_call0_v160⟩ : Words) (⟨.of KernelIdeal.main_call0_call0_v161, .of ReferenceIdeal.main_call0_call0_v161⟩ : Words) ori
  :: .binary (⟨.of KernelIdeal.main_call0_call0_v156, .of ReferenceIdeal.main_call0_call0_v156⟩ : Words) (⟨.of KernelIdeal.main_call0_call0_v161, .of ReferenceIdeal.main_call0_call0_v161⟩ : Words) (⟨.of KernelIdeal.main_call0_call0_v162, .of ReferenceIdeal.main_call0_call0_v162⟩ : Words) xori
  :: .binary (⟨.of KernelIdeal.main_call0_call0_v156, .of ReferenceIdeal.main_call0_call0_v156⟩ : Words) (⟨.of KernelIdeal.main_call0_call0_v162, .of ReferenceIdeal.main_call0_call0_v162⟩ : Words) (⟨.of KernelIdeal.main_call0_call0_v163, .of ReferenceIdeal.main_call0_call0_v163⟩ : Words) addi
  :: .nullary (⟨.of KernelIdeal.main_call0_call0_c_42, .of ReferenceIdeal.main_call0_call0_c_42⟩ : Word) (constantI S_ 32 6#32)
  :: .unary (⟨.of KernelIdeal.main_call0_call0_c_42, .of ReferenceIdeal.main_call0_call0_c_42⟩ : Word) (⟨.of KernelIdeal.main_call0_call0_v164, .of ReferenceIdeal.main_call0_call0_v164⟩ : Words) (broadcastInDim S16384x64 ![] bcast_S_S16384x64)
  :: .binary (⟨.of KernelIdeal.main_call0_call0_v162, .of ReferenceIdeal.main_call0_call0_v162⟩ : Words) (⟨.of KernelIdeal.main_call0_call0_v164, .of ReferenceIdeal.main_call0_call0_v164⟩ : Words) (⟨.of KernelIdeal.main_call0_call0_v165, .of ReferenceIdeal.main_call0_call0_v165⟩ : Words) Host.shli
  :: .nullary (⟨.of KernelIdeal.main_call0_call0_c_43, .of ReferenceIdeal.main_call0_call0_c_43⟩ : Word) (constantI S_ 32 26#32)
  :: .unary (⟨.of KernelIdeal.main_call0_call0_c_43, .of ReferenceIdeal.main_call0_call0_c_43⟩ : Word) (⟨.of KernelIdeal.main_call0_call0_v166, .of ReferenceIdeal.main_call0_call0_v166⟩ : Words) (broadcastInDim S16384x64 ![] bcast_S_S16384x64)
  :: .binary (⟨.of KernelIdeal.main_call0_call0_v162, .of ReferenceIdeal.main_call0_call0_v162⟩ : Words) (⟨.of KernelIdeal.main_call0_call0_v166, .of ReferenceIdeal.main_call0_call0_v166⟩ : Words) (⟨.of KernelIdeal.main_call0_call0_v167, .of ReferenceIdeal.main_call0_call0_v167⟩ : Words) Host.shrui
  :: .binary (⟨.of KernelIdeal.main_call0_call0_v165, .of ReferenceIdeal.main_call0_call0_v165⟩ : Words) (⟨.of KernelIdeal.main_call0_call0_v167, .of ReferenceIdeal.main_call0_call0_v167⟩ : Words) (⟨.of KernelIdeal.main_call0_call0_v168, .of ReferenceIdeal.main_call0_call0_v168⟩ : Words) ori
  :: .binary (⟨.of KernelIdeal.main_call0_call0_v163, .of ReferenceIdeal.main_call0_call0_v163⟩ : Words) (⟨.of KernelIdeal.main_call0_call0_v168, .of ReferenceIdeal.main_call0_call0_v168⟩ : Words) (⟨.of KernelIdeal.main_call0_call0_v169, .of ReferenceIdeal.main_call0_call0_v169⟩ : Words) xori
  :: .unary (⟨.of KernelIdeal.main_call0_call0_v1, .of ReferenceIdeal.main_call0_call0_v1⟩ : Word) (⟨.of KernelIdeal.main_call0_call0_v170, .of ReferenceIdeal.main_call0_call0_v170⟩ : Words) (broadcastInDim S16384x64 ![] bcast_S_S16384x64)
  :: .binary (⟨.of KernelIdeal.main_call0_call0_v163, .of ReferenceIdeal.main_call0_call0_v163⟩ : Words) (⟨.of KernelIdeal.main_call0_call0_v170, .of ReferenceIdeal.main_call0_call0_v170⟩ : Words) (⟨.of KernelIdeal.main_call0_v19_0, .of ReferenceIdeal.main_call0_v19_0⟩ : Words) addi
  :: .unary (⟨.of KernelIdeal.main_call0_v5, .of ReferenceIdeal.main_call0_v5⟩ : Word) (⟨.of KernelIdeal.main_call0_call0_v172, .of ReferenceIdeal.main_call0_call0_v172⟩ : Words) (broadcastInDim S16384x64 ![] bcast_S_S16384x64)
  :: .binary (⟨.of KernelIdeal.main_call0_call0_v169, .of ReferenceIdeal.main_call0_call0_v169⟩ : Words) (⟨.of KernelIdeal.main_call0_call0_v172, .of ReferenceIdeal.main_call0_call0_v172⟩ : Words) (⟨.of KernelIdeal.main_call0_call0_v173, .of ReferenceIdeal.main_call0_call0_v173⟩ : Words) addi
  :: .nullary (⟨.of KernelIdeal.main_call0_call0_c_44, .of ReferenceIdeal.main_call0_call0_c_44⟩ : Word) (constantI S_ 32 5#32)
  :: .unary (⟨.of KernelIdeal.main_call0_call0_c_44, .of ReferenceIdeal.main_call0_call0_c_44⟩ : Word) (⟨.of KernelIdeal.main_call0_call0_v174, .of ReferenceIdeal.main_call0_call0_v174⟩ : Words) (broadcastInDim S16384x64 ![] bcast_S_S16384x64)
  :: .binary (⟨.of KernelIdeal.main_call0_call0_v173, .of ReferenceIdeal.main_call0_call0_v173⟩ : Words) (⟨.of KernelIdeal.main_call0_call0_v174, .of ReferenceIdeal.main_call0_call0_v174⟩ : Words) (⟨.of KernelIdeal.main_call0_v19_1, .of ReferenceIdeal.main_call0_v19_1⟩ : Words) addi
  :: .binary (⟨.of KernelIdeal.main_call0_v19_0, .of ReferenceIdeal.main_call0_v19_0⟩ : Words) (⟨.of KernelIdeal.main_call0_v19_1, .of ReferenceIdeal.main_call0_v19_1⟩ : Words) (⟨.of KernelIdeal.main_call0_v20, .of ReferenceIdeal.main_call0_v20⟩ : Words) xori
  :: []

set_option maxHeartbeats 40000000 in
/-- From the random words to the noise: a float in [1, 2) by its bits, minus 1, scaled to the interval; then -log(-log(u + eps) + eps). -/
noncomputable def noise : List Op :=
  .nullary (⟨.of KernelIdeal.main_call0_c_2, .of ReferenceIdeal.main_call0_c_2⟩ : Word) (constantI S_ 32 9#32)
  :: .unary (⟨.of KernelIdeal.main_call0_c_2, .of ReferenceIdeal.main_call0_c_2⟩ : Word) (⟨.of KernelIdeal.main_call0_v21, .of ReferenceIdeal.main_call0_v21⟩ : Words) (broadcastInDim S16384x64 ![] bcast_S_S16384x64)
  :: .binary (⟨.of KernelIdeal.main_call0_v20, .of ReferenceIdeal.main_call0_v20⟩ : Words) (⟨.of KernelIdeal.main_call0_v21, .of ReferenceIdeal.main_call0_v21⟩ : Words) (⟨.of KernelIdeal.main_call0_v22, .of ReferenceIdeal.main_call0_v22⟩ : Words) Host.shrui
  :: .nullary (⟨.of KernelIdeal.main_call0_c_3, .of ReferenceIdeal.main_call0_c_3⟩ : Word) (constantI S_ 32 1065353216#32)
  :: .unary (⟨.of KernelIdeal.main_call0_c_3, .of ReferenceIdeal.main_call0_c_3⟩ : Word) (⟨.of KernelIdeal.main_call0_v23, .of ReferenceIdeal.main_call0_v23⟩ : Words) (broadcastInDim S16384x64 ![] bcast_S_S16384x64)
  :: .binary (⟨.of KernelIdeal.main_call0_v22, .of ReferenceIdeal.main_call0_v22⟩ : Words) (⟨.of KernelIdeal.main_call0_v23, .of ReferenceIdeal.main_call0_v23⟩ : Words) (⟨.of KernelIdeal.main_call0_v24, .of ReferenceIdeal.main_call0_v24⟩ : Words) ori
  :: .unary (⟨.of KernelIdeal.main_call0_v24, .of ReferenceIdeal.main_call0_v24⟩ : Words) (⟨.of KernelIdeal.main_call0_v25, .of ReferenceIdeal.main_call0_v25⟩ : Reals) (bitcastToFloat (F := Ideal) .f32)
  :: .nullary (⟨.of KernelIdeal.main_call0_cst, .of ReferenceIdeal.main_call0_cst⟩ : Real) (constant (F := Ideal) S_ .f32 0x3F800000#32)
  :: .unary (⟨.of KernelIdeal.main_call0_cst, .of ReferenceIdeal.main_call0_cst⟩ : Real) (⟨.of KernelIdeal.main_call0_v26, .of ReferenceIdeal.main_call0_v26⟩ : Reals) (broadcastInDim S16384x64 ![] bcast_S_S16384x64)
  :: .binary (⟨.of KernelIdeal.main_call0_v25, .of ReferenceIdeal.main_call0_v25⟩ : Reals) (⟨.of KernelIdeal.main_call0_v26, .of ReferenceIdeal.main_call0_v26⟩ : Reals) (⟨.of KernelIdeal.main_call0_v27, .of ReferenceIdeal.main_call0_v27⟩ : Reals) (subf (F := Ideal) (φ := .f32))
  :: .binary (⟨.of KernelIdeal.main_call0_v3, .of ReferenceIdeal.main_call0_v3⟩ : Real11) (⟨.of KernelIdeal.main_call0_v2, .of ReferenceIdeal.main_call0_v2⟩ : Real11) (⟨.of KernelIdeal.main_call0_v28, .of ReferenceIdeal.main_call0_v28⟩ : Real11) (subf (F := Ideal) (φ := .f32))
  :: .unary (⟨.of KernelIdeal.main_call0_v28, .of ReferenceIdeal.main_call0_v28⟩ : Real11) (⟨.of KernelIdeal.main_call0_v29, .of ReferenceIdeal.main_call0_v29⟩ : Reals) (broadcastInDim S16384x64 ![0, 1] bcast_S1x1_S16384x64_0_1)
  :: .binary (⟨.of KernelIdeal.main_call0_v27, .of ReferenceIdeal.main_call0_v27⟩ : Reals) (⟨.of KernelIdeal.main_call0_v29, .of ReferenceIdeal.main_call0_v29⟩ : Reals) (⟨.of KernelIdeal.main_call0_v30, .of ReferenceIdeal.main_call0_v30⟩ : Reals) (mulf (F := Ideal) (φ := .f32))
  :: .unary (⟨.of KernelIdeal.main_call0_v2, .of ReferenceIdeal.main_call0_v2⟩ : Real11) (⟨.of KernelIdeal.main_call0_v31, .of ReferenceIdeal.main_call0_v31⟩ : Reals) (broadcastInDim S16384x64 ![0, 1] bcast_S1x1_S16384x64_0_1)
  :: .binary (⟨.of KernelIdeal.main_call0_v30, .of ReferenceIdeal.main_call0_v30⟩ : Reals) (⟨.of KernelIdeal.main_call0_v31, .of ReferenceIdeal.main_call0_v31⟩ : Reals) (⟨.of KernelIdeal.main_call0_v32, .of ReferenceIdeal.main_call0_v32⟩ : Reals) (addf (F := Ideal) (φ := .f32))
  :: .unary (⟨.of KernelIdeal.main_call0_v2, .of ReferenceIdeal.main_call0_v2⟩ : Real11) (⟨.of KernelIdeal.main_call0_v33, .of ReferenceIdeal.main_call0_v33⟩ : Reals) (broadcastInDim S16384x64 ![0, 1] bcast_S1x1_S16384x64_0_1)
  :: .binary (⟨.of KernelIdeal.main_call0_v33, .of ReferenceIdeal.main_call0_v33⟩ : Reals) (⟨.of KernelIdeal.main_call0_v32, .of ReferenceIdeal.main_call0_v32⟩ : Reals) (⟨.of KernelIdeal.main_v9, .of ReferenceIdeal.main_v10⟩ : Reals) (maximumf (F := Ideal) (φ := .f32))
  :: .nullary (⟨.of KernelIdeal.main_cst_3, .of ReferenceIdeal.main_cst_3⟩ : Real) (constant (F := Ideal) S_ .f32 0x1E3CE508#32)
  :: .unary (⟨.of KernelIdeal.main_cst_3, .of ReferenceIdeal.main_cst_3⟩ : Real) (⟨.of KernelIdeal.main_v10, .of ReferenceIdeal.main_v11⟩ : Reals) (broadcastInDim S16384x64 ![] bcast_S_S16384x64)
  :: .binary (⟨.of KernelIdeal.main_v9, .of ReferenceIdeal.main_v10⟩ : Reals) (⟨.of KernelIdeal.main_v10, .of ReferenceIdeal.main_v11⟩ : Reals) (⟨.of KernelIdeal.main_v11, .of ReferenceIdeal.main_v12⟩ : Reals) (addf (F := Ideal) (φ := .f32))
  :: .unary (⟨.of KernelIdeal.main_v11, .of ReferenceIdeal.main_v12⟩ : Reals) (⟨.of KernelIdeal.main_v12, .of ReferenceIdeal.main_v13⟩ : Reals) (Host.log (F := Ideal) (φ := .f32))
  :: .unary (⟨.of KernelIdeal.main_v12, .of ReferenceIdeal.main_v13⟩ : Reals) (⟨.of KernelIdeal.main_v13, .of ReferenceIdeal.main_v14⟩ : Reals) (Host.negf (F := Ideal) (φ := .f32))
  :: .nullary (⟨.of KernelIdeal.main_cst_4, .of ReferenceIdeal.main_cst_4⟩ : Real) (constant (F := Ideal) S_ .f32 0x1E3CE508#32)
  :: .unary (⟨.of KernelIdeal.main_cst_4, .of ReferenceIdeal.main_cst_4⟩ : Real) (⟨.of KernelIdeal.main_v14, .of ReferenceIdeal.main_v15⟩ : Reals) (broadcastInDim S16384x64 ![] bcast_S_S16384x64)
  :: .binary (⟨.of KernelIdeal.main_v13, .of ReferenceIdeal.main_v14⟩ : Reals) (⟨.of KernelIdeal.main_v14, .of ReferenceIdeal.main_v15⟩ : Reals) (⟨.of KernelIdeal.main_v15, .of ReferenceIdeal.main_v16⟩ : Reals) (addf (F := Ideal) (φ := .f32))
  :: .unary (⟨.of KernelIdeal.main_v15, .of ReferenceIdeal.main_v16⟩ : Reals) (⟨.of KernelIdeal.main_v16, .of ReferenceIdeal.main_v17⟩ : Reals) (Host.log (F := Ideal) (φ := .f32))
  :: .unary (⟨.of KernelIdeal.main_v16, .of ReferenceIdeal.main_v17⟩ : Reals) (⟨.of KernelIdeal.main_v17, .of ReferenceIdeal.main_v18⟩ : Reals) (Host.negf (F := Ideal) (φ := .f32))
  :: []

/-- The whole line. -/
noncomputable def steps : List Op := key ++ (draw0 ++ (draw1 ++ (draw2 ++ (draw3 ++ noise))))

set_option maxHeartbeats 40000000 in
/-- Every operation of the line reads earlier buffers of it and writes the next one. -/
theorem steps_ok : Tape.Ok 4 4 steps := by decide +kernel

end Cert.Host

end
-- ==== Proof.RefRun.lean ====
/-
  The reference's run: its @main is one line of operations (`main_eq`), run once (`run`). The line is cut into the
  logits (`logitsOps`), the noise that it shares with the kernel's program (Host.lean), the softmax (`softOps`) and the
  two index choices (`indexOps`).
-/
module

public import proofs.«01_k».proof.Proof.Host
public import Idealize.ShloMosaic.Lib.Pipeline.Regions
public import Idealize.ShloMosaic.Lib.StableHlo.RunRead
public import Idealize.ShloMosaic.Lib.StableHlo.RunHlo

@[expose] public section

set_option maxRecDepth 4000
set_option Elab.async false

noncomputable section

namespace Cert.ReferenceIdeal.Line

open Idealize.ShloMosaic Idealize.SL.Sem
open ReferenceIdeal ReferenceIdeal.Facts₀ ReferenceIdeal.Facts

variable {F : FTy → Type} [FloatOps F]

/-- The logits: the tokens as rows, the router weights transposed, and their product. -/
noncomputable def logitsOps : List (HloOp τ sig (Elt F)) :=
  [ StableHlo.reshape main_arg0 main_v0 (rfl : (.f32 : EltTy) = .f32) shapeCasts_S4x4096x4096_S16384x4096,
    StableHlo.unary main_arg1 main_v1 ((transpose S4096x64 [1, 0] · transposes_S64x4096_S4096x64_1_0) : (⟨S64x4096, .f32⟩ : BufTy).Contents (Elt F) → (⟨S4096x64, .f32⟩ : BufTy).Contents (Elt F)),
    StableHlo.binary main_v0 main_v1 main_v2 ((fun l r => Host.dotGeneral dot_S16384x4096_S4096x64_S16384x64_1_0_0_1_n_n none l r) : (⟨S16384x4096, .f32⟩ : BufTy).Contents (Elt F) → (⟨S4096x64, .f32⟩ : BufTy).Contents (Elt F) → (⟨S16384x64, .f32⟩ : BufTy).Contents (Elt F)) ]

/-- The softmax of the noisy logits over the temperature. -/
noncomputable def softOps : List (HloOp τ sig (Elt F)) :=
  [ StableHlo.binary main_v2 main_v18 main_v19 (addf : (⟨S16384x64, .f32⟩ : BufTy).Contents (Elt F) → (⟨S16384x64, .f32⟩ : BufTy).Contents (Elt F) → (⟨S16384x64, .f32⟩ : BufTy).Contents (Elt F)),
    StableHlo.nullary main_cst_5 (constant S_ .f32 0x3ECCCCCD#32),
    StableHlo.unary main_cst_5 main_v20 (broadcastInDim S16384x64 ![] bcast_S_S16384x64 : (⟨S_, .f32⟩ : BufTy).Contents (Elt F) → (⟨S16384x64, .f32⟩ : BufTy).Contents (Elt F)),
    StableHlo.binary main_v19 main_v20 main_v21 (Host.divf : (⟨S16384x64, .f32⟩ : BufTy).Contents (Elt F) → (⟨S16384x64, .f32⟩ : BufTy).Contents (Elt F) → (⟨S16384x64, .f32⟩ : BufTy).Contents (Elt F)),
    StableHlo.nullary main_cst_6 (constant S_ .f32 0xFF800000#32),
    StableHlo.binary main_v21 main_cst_6 main_v22 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.nullary main_cst_7 (constant S_ .f32 0xFF800000#32),
    StableHlo.unary main_cst_7 main_v23 (broadcastInDim S16384 ![] bcast_S_S16384 : (⟨S_, .f32⟩ : BufTy).Contents (Elt F) → (⟨S16384, .f32⟩ : BufTy).Contents (Elt F)),
    StableHlo.binary main_v23 main_v22 main_v24 (maximumf : (⟨S16384, .f32⟩ : BufTy).Contents (Elt F) → (⟨S16384, .f32⟩ : BufTy).Contents (Elt F) → (⟨S16384, .f32⟩ : BufTy).Contents (Elt F)),
    StableHlo.unary main_v24 main_v25 (broadcastInDim S16384x1 ![0] bcast_S16384_S16384x1_0 : (⟨S16384, .f32⟩ : BufTy).Contents (Elt F) → (⟨S16384x1, .f32⟩ : BufTy).Contents (Elt F)),
    StableHlo.unary main_v25 main_v26 (broadcastInDim S16384x64 ![0, 1] bcast_S16384x1_S16384x64_0_1 : (⟨S16384x1, .f32⟩ : BufTy).Contents (Elt F) → (⟨S16384x64, .f32⟩ : BufTy).Contents (Elt F)),
    StableHlo.binary main_v21 main_v26 main_v27 (subf : (⟨S16384x64, .f32⟩ : BufTy).Contents (Elt F) → (⟨S16384x64, .f32⟩ : BufTy).Contents (Elt F) → (⟨S16384x64, .f32⟩ : BufTy).Contents (Elt F)),
    StableHlo.unary main_v27 main_v28 (Host.exp : (⟨S16384x64, .f32⟩ : BufTy).Contents (Elt F) → (⟨S16384x64, .f32⟩ : BufTy).Contents (Elt F)),
    StableHlo.nullary main_cst_8 (constant S_ .f32 0x00000000#32),
    StableHlo.binary main_v28 main_cst_8 main_v29 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v29 main_v30 (broadcastInDim S16384x1 ![0] bcast_S16384_S16384x1_0 : (⟨S16384, .f32⟩ : BufTy).Contents (Elt F) → (⟨S16384x1, .f32⟩ : BufTy).Contents (Elt F)),
    StableHlo.unary main_v30 main_v31 (broadcastInDim S16384x64 ![0, 1] bcast_S16384x1_S16384x64_0_1 : (⟨S16384x1, .f32⟩ : BufTy).Contents (Elt F) → (⟨S16384x64, .f32⟩ : BufTy).Contents (Elt F)),
    StableHlo.binary main_v28 main_v31 main_v32 (Host.divf : (⟨S16384x64, .f32⟩ : BufTy).Contents (Elt F) → (⟨S16384x64, .f32⟩ : BufTy).Contents (Elt F) → (⟨S16384x64, .f32⟩ : BufTy).Contents (Elt F)) ]

/-- The choice of the greatest probability, its one-hot row, the straight-through value and its greatest entry. -/
noncomputable def indexOps : List (HloOp τ sig (Elt F)) :=
  [ StableHlo.TRef.nullary (.of main_call1_v0 : StableHlo.TRef sig ⟨S16384x64, .i32⟩) (iotaInDim S16384x64 32 1),
    StableHlo.TRef.nullary (.of main_call1_cst : StableHlo.TRef sig ⟨S_, .f32⟩) (constant S_ .f32 0xFF800000#32),
    StableHlo.TRef.nullary (.of main_call1_c : StableHlo.TRef sig ⟨S_, .i32⟩) (constantI S_ 32 0#32),
    StableHlo.TRef.quaternary (.of main_v32 : StableHlo.TRef sig ⟨S16384x64, .f32⟩) (.of main_call1_v0 : StableHlo.TRef sig ⟨S16384x64, .i32⟩) (.of main_call1_cst : StableHlo.TRef sig ⟨S_, .f32⟩) (.of main_call1_c : StableHlo.TRef sig ⟨S_, .i32⟩) (.of main_call1_v1_0 : StableHlo.TRef sig ⟨S16384, .f32⟩) (fun x y u v j => (Host.argReduce reducer_argmax_f32_i32 x y u v reducesTo_S16384x64_S16384_d1 h_S_ j).1),
    StableHlo.TRef.quaternary (.of main_v32 : StableHlo.TRef sig ⟨S16384x64, .f32⟩) (.of main_call1_v0 : StableHlo.TRef sig ⟨S16384x64, .i32⟩) (.of main_call1_cst : StableHlo.TRef sig ⟨S_, .f32⟩) (.of main_call1_c : StableHlo.TRef sig ⟨S_, .i32⟩) (.of main_v33 : StableHlo.TRef sig ⟨S16384, .i32⟩) (fun x y u v j => (Host.argReduce reducer_argmax_f32_i32 x y u v reducesTo_S16384x64_S16384_d1 h_S_ j).2),
    StableHlo.TRef.unary (.of main_v33 : StableHlo.TRef sig ⟨S16384, .i32⟩) (.of main_call2_v0 : StableHlo.TRef sig ⟨S16384x1, .i32⟩) (broadcastInDim S16384x1 ![0] bcast_S16384_S16384x1_0),
    StableHlo.TRef.nullary (.of main_call2_v1 : StableHlo.TRef sig ⟨S1x64, .i32⟩) (iotaInDim S1x64 32 1),
    StableHlo.TRef.unary (.of main_call2_v0 : StableHlo.TRef sig ⟨S16384x1, .i32⟩) (.of main_call2_v2 : StableHlo.TRef sig ⟨S16384x64, .i32⟩) (broadcastInDim S16384x64 ![0, 1] bcast_S16384x1_S16384x64_0_1),
    StableHlo.TRef.unary (.of main_call2_v1 : StableHlo.TRef sig ⟨S1x64, .i32⟩) (.of main_call2_v3 : StableHlo.TRef sig ⟨S16384x64, .i32⟩) (broadcastInDim S16384x64 ![0, 1] bcast_S1x64_S16384x64_0_1),
    StableHlo.TRef.binary (.of main_call2_v2 : StableHlo.TRef sig ⟨S16384x64, .i32⟩) (.of main_call2_v3 : StableHlo.TRef sig ⟨S16384x64, .i32⟩) (.of main_call2_v4 : StableHlo.TRef sig ⟨S16384x64, .i1⟩) (cmpi .eq),
    StableHlo.TRef.unary (.of main_call2_v4 : StableHlo.TRef sig ⟨S16384x64, .i1⟩) (.of main_v34 : StableHlo.TRef sig ⟨S16384x64, .f32⟩) (uitofp .f32),
    StableHlo.binary main_v34 main_v32 main_v35 (subf : (⟨S16384x64, .f32⟩ : BufTy).Contents (Elt F) → (⟨S16384x64, .f32⟩ : BufTy).Contents (Elt F) → (⟨S16384x64, .f32⟩ : BufTy).Contents (Elt F)),
    StableHlo.binary main_v35 main_v32 main_v36 (addf : (⟨S16384x64, .f32⟩ : BufTy).Contents (Elt F) → (⟨S16384x64, .f32⟩ : BufTy).Contents (Elt F) → (⟨S16384x64, .f32⟩ : BufTy).Contents (Elt F)),
    StableHlo.TRef.nullary (.of main_call3_v0 : StableHlo.TRef sig ⟨S16384x64, .i32⟩) (iotaInDim S16384x64 32 1),
    StableHlo.TRef.nullary (.of main_call3_cst : StableHlo.TRef sig ⟨S_, .f32⟩) (constant S_ .f32 0xFF800000#32),
    StableHlo.TRef.nullary (.of main_call3_c : StableHlo.TRef sig ⟨S_, .i32⟩) (constantI S_ 32 0#32),
    StableHlo.TRef.quaternary (.of main_v36 : StableHlo.TRef sig ⟨S16384x64, .f32⟩) (.of main_call3_v0 : StableHlo.TRef sig ⟨S16384x64, .i32⟩) (.of main_call3_cst : StableHlo.TRef sig ⟨S_, .f32⟩) (.of main_call3_c : StableHlo.TRef sig ⟨S_, .i32⟩) (.of main_call3_v1_0 : StableHlo.TRef sig ⟨S16384, .f32⟩) (fun x y u v j => (Host.argReduce reducer_argmax_f32_i32 x y u v reducesTo_S16384x64_S16384_d1 h_S_ j).1),
    StableHlo.TRef.quaternary (.of main_v36 : StableHlo.TRef sig ⟨S16384x64, .f32⟩) (.of main_call3_v0 : StableHlo.TRef sig ⟨S16384x64, .i32⟩) (.of main_call3_cst : StableHlo.TRef sig ⟨S_, .f32⟩) (.of main_call3_c : StableHlo.TRef sig ⟨S_, .i32⟩) (.of main_v37 : StableHlo.TRef sig ⟨S16384, .i32⟩) (fun x y u v j => (Host.argReduce reducer_argmax_f32_i32 x y u v reducesTo_S16384x64_S16384_d1 h_S_ j).2) ]

/-- The noise's operations in this program. -/
noncomputable def noiseOps : List (HloOp τ sig (Elt Ideal)) := Host.steps.map Tape.Step.right

/-- The reference's operations, in order. -/
noncomputable def ops : List (HloOp τ sig (Elt Ideal)) := logitsOps ++ (noiseOps ++ (softOps ++ indexOps))

set_option maxHeartbeats 40000000 in
/-- The reference's @main is its operations run in order. -/
theorem main_eq (c : Dev nD) : main (F := Ideal) c = StableHlo.seq ops := by
  chain_rfl

open StableHlo in
/-- Every operation touches buffers of the TensorCore's own references. -/
theorem ops_sub : (ops).Forall fun op => op.bufs ⊆ tcRefs τ sig := by
  rw [List.forall_iff_forall_mem]
  intro op h
  simp only [ops, List.mem_append] at h
  rcases h with h | h | h | h
  · exact List.forall_iff_forall_mem.mp (show (logitsOps (F := Ideal)).Forall fun op => op.bufs ⊆ tcRefs τ sig from ⟨StableHlo.reshape_bufs_sub .., StableHlo.unary_bufs_sub .., StableHlo.binary_bufs_sub ..⟩) op h
  · obtain ⟨s, -, rfl⟩ := List.mem_map.mp h
    cases s with
    | nullary y v => exact nullary_bufs_sub _ _ y.r.dev
    | unary x y f => exact unary_bufs_sub (Val := Elt Ideal) _ _ (fun u => y.r.toBuf (f (x.r.ofBuf u))) x.r.dev y.r.dev
    | binary a b y f => exact binary_bufs_sub (Val := Elt Ideal) _ _ _ (fun u v => y.r.toBuf (f (a.r.ofBuf u) (b.r.ofBuf v))) a.r.dev b.r.dev y.r.dev
    | reshape x y he hn => exact reshape_bufs_sub _ _ _ _ x.r.dev y.r.dev
  · exact List.forall_iff_forall_mem.mp (show (softOps (F := Ideal)).Forall fun op => op.bufs ⊆ tcRefs τ sig from ⟨StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩) op h
  · exact List.forall_iff_forall_mem.mp (show (indexOps (F := Ideal)).Forall fun op => op.bufs ⊆ tcRefs τ sig from ⟨StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.nullary_bufs_sub .., StableHlo.nullary_bufs_sub .., StableHlo.quaternary_bufs_sub .., StableHlo.quaternary_bufs_sub ..⟩) op h

open StableHlo in
/-- Every operation determines its result. -/
theorem ops_fresh : ∀ op ∈ ops, op.fresh = ∅ := by
  intro op h
  simp only [ops, List.mem_append] at h
  rcases h with h | h | h | h
  · exact List.forall_iff_forall_mem.mp (forall_fresh_of_map (ops := logitsOps (F := Ideal)) rfl) op h
  · obtain ⟨s, -, rfl⟩ := List.mem_map.mp h
    cases s <;> rfl
  · exact List.forall_iff_forall_mem.mp (forall_fresh_of_map (ops := softOps (F := Ideal)) rfl) op h
  · exact List.forall_iff_forall_mem.mp (forall_fresh_of_map (ops := indexOps (F := Ideal)) rfl) op h

/-- The run: every buffer ends at the fold of the operations over the launch's contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = StableHlo.after ops (StableHlo.launchContents m d) (Proc.devRef .tc b) :=
  StableHlo.run_hlo _ _ main_eq (by decide) (by decide) ops_sub ops_fresh m ρ

open StableHlo in
/-- An argument is written by no operation. -/
theorem kept_of {r : Ref sig .tc} {n : ℕ} (hr : Tape.num r = some n) (hn : n < 5)
    (h₀ : r ∉ [main_v0, main_v1, main_v2]) (h₁ : r ∉ [main_v19, main_cst_5, main_v20, main_v21, main_cst_6, main_v22, main_cst_7, main_v23, main_v24, main_v25, main_v26, main_v27, main_v28, main_cst_8, main_v29, main_v30, main_v31, main_v32]) (h₂ : r ∉ [main_call1_v0, main_call1_cst, main_call1_c, main_call1_v1_0, main_v33, main_call2_v0, main_call2_v1, main_call2_v2, main_call2_v3, main_call2_v4, main_v34, main_v35, main_v36, main_call3_v0, main_call3_cst, main_call3_c, main_call3_v1_0, main_v37]) (V : Valuation τ sig (Elt Ideal)) :
    after ops V (Proc.devRef .tc r) = V (Proc.devRef .tc r) := by
  unfold ops
  rw [after_append, after_append, after_append,
    after_of_writes_sub (indexOps (F := Ideal)) _ (forall_writes_sub_of_map (W := [main_call1_v0, main_call1_cst, main_call1_c, main_call1_v1_0, main_v33, main_call2_v0, main_call2_v1, main_call2_v2, main_call2_v3, main_call2_v4, main_v34, main_v35, main_v36, main_call3_v0, main_call3_cst, main_call3_c, main_call3_v1_0, main_v37]) rfl) h₂,
    after_of_writes_sub (softOps (F := Ideal)) _ (forall_writes_sub_of_map (W := [main_v19, main_cst_5, main_v20, main_v21, main_cst_6, main_v22, main_cst_7, main_v23, main_v24, main_v25, main_v26, main_v27, main_v28, main_cst_8, main_v29, main_v30, main_v31, main_v32]) rfl) h₁]
  unfold noiseOps
  rw [Tape.right_keep hr Host.steps 4 _ Host.steps_ok hn,
    after_of_writes_sub (logitsOps (F := Ideal)) _ (forall_writes_sub_of_map (W := [main_v0, main_v1, main_v2]) rfl) h₀]

/-- The first argument ends as it was. -/
theorem kept0 (V : Valuation τ sig (Elt Ideal)) :
    StableHlo.after ops V (Proc.devRef .tc main_arg0) = V (Proc.devRef .tc main_arg0) :=
  kept_of (n := 0) (by decide) (by decide) (by decide) (by decide) (by decide) V

/-- The second argument ends as it was. -/
theorem kept1 (V : Valuation τ sig (Elt Ideal)) :
    StableHlo.after ops V (Proc.devRef .tc main_arg1) = V (Proc.devRef .tc main_arg1) :=
  kept_of (n := 1) (by decide) (by decide) (by decide) (by decide) (by decide) V

/-- The frame: the run ends with the arguments as they were and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 := by
  refine θ_run_mono (run m g) fun r h => ⟨fun c => ⟨?_, ?_⟩, ?_⟩
  · rw [h, kept0]
  · rw [h, kept1]
  · funext ⟨_, s⟩
    cases s with
    | reg s => exact s.elim0
    | dma s => exact s.elim0

end Cert.ReferenceIdeal.Line

end
-- ==== Proof.Region.lean ====
/-
  What the kernel's region finds: the tokens as rows, the router weights transposed, and the noise — the last being what
  the reference's program holds after the shared line of operations (Host.lean), whatever it held before.
-/
module

public import proofs.«01_k».proof.Proof.Host
public import proofs.«01_k».proof.Proof.RefRun
public import proofs.«01_k».proof.Proof.Gen.KernelIdeal.Frame

@[expose] public section

set_option maxRecDepth 4000
set_option Elab.async false

noncomputable section

namespace Cert.KernelIdeal.Region

open Idealize.ShloMosaic Idealize.ShloMosaic.StableHlo
open KernelIdeal KernelIdeal.Facts₀ KernelIdeal.Facts

/-- The two operations before the shared line: the tokens as rows and the weights transposed. -/
noncomputable def inputOps : List (HloOp τ sig (Elt Ideal)) :=
  [ StableHlo.reshape main_arg0 main_v0 (rfl : (.f32 : EltTy) = .f32) shapeCasts_S4x4096x4096_S16384x4096,
    StableHlo.unary main_arg1 main_v1 ((transpose S4096x64 [1, 0] · transposes_S64x4096_S4096x64_1_0) : (⟨S64x4096, .f32⟩ : BufTy).Contents (Elt Ideal) → (⟨S4096x64, .f32⟩ : BufTy).Contents (Elt Ideal)) ]

set_option maxHeartbeats 40000000 in
/-- The operations before the region are those two and the shared line. -/
theorem ops_eq : List.flatten [Gen.hostOps0 (F := Ideal), Gen.hostOps0_1, Gen.hostOps0_2] =
    inputOps ++ Host.steps.map Tape.Step.left := by
  chain_rfl

variable (m : (ℓ : Loc nD τ sig) → Buf (Elt Ideal) ℓ)

/-- The region's buffers, as the shared line leaves them. -/
theorem V_eq (c : Dev nD) (b : Ref sig .tc) : Gen.V m c b =
    after (Host.steps.map Tape.Step.left) (after inputOps (launchContents m c)) (Proc.devRef .tc b) := by
  unfold Gen.V
  rw [ops_eq, after_append]

/-- The tokens as rows. -/
theorem tokens (c : Dev nD) : Gen.V m c main_v0 =
    shapeCast S16384x4096 (m ((c.tc : Thread nD τ).loc main_arg0) : (⟨S4x4096x4096, .f32⟩ : BufTy).Contents (Elt Ideal))
      shapeCasts_S4x4096x4096_S16384x4096 := by
  rw [V_eq, Tape.left_keep (n := 2) (by decide) Host.steps 4 _ Host.steps_ok (by decide)]
  rfl

/-- The weights transposed. -/
theorem weights (c : Dev nD) : Gen.V m c main_v1 =
    transpose S4096x64 [1, 0] (m ((c.tc : Thread nD τ).loc main_arg1) : (⟨S64x4096, .f32⟩ : BufTy).Contents (Elt Ideal))
      transposes_S64x4096_S4096x64_1_0 := by
  rw [V_eq, Tape.left_keep (n := 3) (by decide) Host.steps 4 _ Host.steps_ok (by decide)]
  rfl

/-- The noise: the reference's, whatever that program held before the shared line. -/
theorem noise (c : Dev nD) (W : Valuation ReferenceIdeal.τ ReferenceIdeal.sig (Elt Ideal)) :
    (Gen.V m c main_v17 : (⟨S16384x64, .f32⟩ : BufTy).Contents (Elt Ideal)) =
      after ReferenceIdeal.Line.noiseOps W (Proc.devRef .tc ReferenceIdeal.main_v18) := by
  have h := Tape.agree Host.steps 4 (after inputOps (launchContents m c)) W Host.steps_ok
    (fun T x hx => by obtain ⟨n, h₀, h₁, -⟩ := hx.elim; omega) _
    (⟨.of main_v17, .of ReferenceIdeal.main_v18⟩ : Host.Reals) (Tape.Step.Old.intro (n := 287) (by decide) (by decide) (by decide +kernel))
  rw [V_eq]
  unfold ReferenceIdeal.Line.noiseOps
  generalize after (Host.steps.map Tape.Step.left) (after inputOps (launchContents m c)) = A at h ⊢
  generalize after (Host.steps.map Tape.Step.right) W = B at h ⊢
  exact h

end Cert.KernelIdeal.Region

end
-- ==== Proof.Draw.lean ====
/-
  One draw of the noise on real numbers: the random word's upper 23 bits under the exponent of one give a number in
  `[1, 2)`; less one it lies in `[0, 1)`; with the small constant added it lies in `(0, 1)`, so both logarithms of the
  Gumbel transform are taken of positive numbers, and the noise is a real number.
-/
module

public import Idealize.ShloMosaic.Lib.Pointwise

@[expose] public section

noncomputable section

namespace Cert.Draw

open Idealize.ShloMosaic

/-- A word with the exponent of one and the sign plus is the number one and its fraction. -/
theorem ofBits_unit (b : BitVec 32) : ∃ k : ℕ, k < 2 ^ 23 ∧
    Ideal.ofBits .f32 ((b >>> 9) ||| 1065353216#32) = ((1 + k / 2 ^ 23 : ℝ) : EReal) := by
  have hs : ((b >>> 9) ||| 1065353216#32).extractLsb' 31 1 = 0#1 := by
    apply BitVec.eq_of_getLsbD_eq; intro i hi
    obtain rfl : i = 0 := by omega
    simp
  have he : ((b >>> 9) ||| 1065353216#32).extractLsb' 23 8 = 127#8 := by
    apply BitVec.eq_of_getLsbD_eq; intro i hi
    interval_cases i <;> simp
  refine ⟨(((b >>> 9) ||| 1065353216#32).extractLsb' 0 23).toNat, BitVec.isLt _, ?_⟩
  generalize ((b >>> 9) ||| 1065353216#32) = m at hs he ⊢
  show Ideal.ieee 8 23 m = _
  unfold Ideal.ieee
  have hs' : m.extractLsb' (8 + 23) 1 = 0#1 := hs
  rw [he, hs']
  generalize (m.extractLsb' 0 23).toNat = k
  norm_num
  norm_cast
  push_cast
  ring

/-- The small constant: a positive real far below one. -/
theorem ofBits_eps : ∃ e : ℝ, 0 < e ∧ e < 1 / 2 ^ 24 ∧ Ideal.ofBits .f32 0x1E3CE508#32 = (e : EReal) := by
  refine ⟨12379400 * 2 ^ (-90 : ℤ), by positivity, ?_, ?_⟩
  · rw [show (-90 : ℤ) = -((90 : ℕ) : ℤ) by norm_num, zpow_neg, zpow_natCast]; norm_num
  · show Ideal.ieee 8 23 (0x1E3CE508#32) = _
    simp [Ideal.ieee]

/-- The draw from a random word. -/
def unif (b : BitVec 32) : EReal :=
  max 0 ((Ideal.ofBits .f32 ((b >>> 9) ||| 1065353216#32) - 1) * (1 - 0) + 0)

/-- The Gumbel transform of a draw. -/
def gumbel (u : EReal) : EReal :=
  -Ideal.log (-Ideal.log (u + Ideal.ofBits .f32 0x1E3CE508#32) + Ideal.ofBits .f32 0x1E3CE508#32)

/-- The noise from any random word is a real number. -/
theorem gumbel_real (b : BitVec 32) : ∃ r : ℝ, gumbel (unif b) = (r : EReal) := by
  obtain ⟨k, hk, hb⟩ := ofBits_unit b
  obtain ⟨e, he₀, he₁, he⟩ := ofBits_eps
  have hu : unif b = ((k / 2 ^ 23 : ℝ) : EReal) := by
    unfold unif
    rw [hb]
    have h1 : (((1 + k / 2 ^ 23 : ℝ) : EReal) - 1) * (1 - 0) + 0 = ((k / 2 ^ 23 : ℝ) : EReal) := by
      rw [sub_zero, mul_one, add_zero, ← EReal.coe_one, ← EReal.coe_sub]
      congr 1; ring
    rw [h1]
    exact max_eq_right (EReal.coe_nonneg.mpr (by positivity))
  have hk' : (k : ℝ) ≤ 2 ^ 23 - 1 := by
    have : k + 1 ≤ 2 ^ 23 := hk
    have : (k : ℝ) + 1 ≤ 2 ^ 23 := by exact_mod_cast this
    linarith
  have hpos : (0 : ℝ) < k / 2 ^ 23 + e := by positivity
  have hlt : (k / 2 ^ 23 + e : ℝ) < 1 := by
    have : (k / 2 ^ 23 : ℝ) ≤ (2 ^ 23 - 1) / 2 ^ 23 := by gcongr
    norm_num at this he₁ ⊢
    linarith
  have hlog := Real.log_neg hpos hlt
  unfold gumbel
  rw [hu, he, ← EReal.coe_add, Ideal.log_coe, if_neg (by linarith), ← EReal.coe_neg, ← EReal.coe_add, Ideal.log_coe,
    if_neg (by linarith), ← EReal.coe_neg]
  exact ⟨_, rfl⟩

end Cert.Draw

end
-- ==== Proof.Noise.lean ====
/-
  The noise is finite: after the shared line of operations, in the reference's program, every entry of the noise is the
  Gumbel transform of a draw from a random word (Draw.lean), whatever the random words are.
-/
module

public import proofs.«01_k».proof.Proof.RefRun
public import proofs.«01_k».proof.Proof.Draw

@[expose] public section

set_option maxRecDepth 4000
set_option Elab.async false

noncomputable section

namespace Cert.ReferenceIdeal.Noise

open Idealize.ShloMosaic Idealize.ShloMosaic.StableHlo
open ReferenceIdeal ReferenceIdeal.Facts₀ ReferenceIdeal.Facts

/-- The values of the line's last operations, one equation each, from the random words on: every entry of the result is
    the transform of a draw from that entry's word. -/
theorem chain (call0_v20 : Vec Ideal S16384x64 .i32) (cst : Vec Ideal S_ .f32) (cst_2 : Vec Ideal S_ .f32) (call0_v0 : Vec Ideal S_ .f32) (call0_v1 : Vec Ideal S_ .f32) (call0_v2 : Vec Ideal S1x1 .f32) (call0_v3 : Vec Ideal S1x1 .f32) (call0_c_2 : Vec Ideal S_ .i32) (call0_v21 : Vec Ideal S16384x64 .i32) (call0_v22 : Vec Ideal S16384x64 .i32) (call0_c_3 : Vec Ideal S_ .i32) (call0_v23 : Vec Ideal S16384x64 .i32) (call0_v24 : Vec Ideal S16384x64 .i32) (call0_v25 : Vec Ideal S16384x64 .f32) (call0_cst : Vec Ideal S_ .f32) (call0_v26 : Vec Ideal S16384x64 .f32) (call0_v27 : Vec Ideal S16384x64 .f32) (call0_v28 : Vec Ideal S1x1 .f32) (call0_v29 : Vec Ideal S16384x64 .f32) (call0_v30 : Vec Ideal S16384x64 .f32) (call0_v31 : Vec Ideal S16384x64 .f32) (call0_v32 : Vec Ideal S16384x64 .f32) (call0_v33 : Vec Ideal S16384x64 .f32) (v10 : Vec Ideal S16384x64 .f32) (cst_3 : Vec Ideal S_ .f32) (v11 : Vec Ideal S16384x64 .f32) (v12 : Vec Ideal S16384x64 .f32) (v13 : Vec Ideal S16384x64 .f32) (v14 : Vec Ideal S16384x64 .f32) (cst_4 : Vec Ideal S_ .f32) (v15 : Vec Ideal S16384x64 .f32) (v16 : Vec Ideal S16384x64 .f32) (v17 : Vec Ideal S16384x64 .f32) (v18 : Vec Ideal S16384x64 .f32)
    (h_cst : cst = constant (F := Ideal) S_ .f32 0x00000000#32)
    (h_cst_2 : cst_2 = constant (F := Ideal) S_ .f32 0x3F800000#32)
    (h_call0_v0 : call0_v0 = cst)
    (h_call0_v1 : call0_v1 = cst_2)
    (h_call0_v2 : call0_v2 = broadcastInDim S1x1 ![] bcast_S_S1x1 call0_v0)
    (h_call0_v3 : call0_v3 = broadcastInDim S1x1 ![] bcast_S_S1x1 call0_v1)
    (h_call0_c_2 : call0_c_2 = constantI S_ 32 9#32)
    (h_call0_v21 : call0_v21 = broadcastInDim S16384x64 ![] bcast_S_S16384x64 call0_c_2)
    (h_call0_v22 : call0_v22 = Host.shrui call0_v20 call0_v21)
    (h_call0_c_3 : call0_c_3 = constantI S_ 32 1065353216#32)
    (h_call0_v23 : call0_v23 = broadcastInDim S16384x64 ![] bcast_S_S16384x64 call0_c_3)
    (h_call0_v24 : call0_v24 = ori call0_v22 call0_v23)
    (h_call0_v25 : call0_v25 = bitcastToFloat (F := Ideal) .f32 call0_v24)
    (h_call0_cst : call0_cst = constant (F := Ideal) S_ .f32 0x3F800000#32)
    (h_call0_v26 : call0_v26 = broadcastInDim S16384x64 ![] bcast_S_S16384x64 call0_cst)
    (h_call0_v27 : call0_v27 = subf (F := Ideal) (φ := .f32) call0_v25 call0_v26)
    (h_call0_v28 : call0_v28 = subf (F := Ideal) (φ := .f32) call0_v3 call0_v2)
    (h_call0_v29 : call0_v29 = broadcastInDim S16384x64 ![0, 1] bcast_S1x1_S16384x64_0_1 call0_v28)
    (h_call0_v30 : call0_v30 = mulf (F := Ideal) (φ := .f32) call0_v27 call0_v29)
    (h_call0_v31 : call0_v31 = broadcastInDim S16384x64 ![0, 1] bcast_S1x1_S16384x64_0_1 call0_v2)
    (h_call0_v32 : call0_v32 = addf (F := Ideal) (φ := .f32) call0_v30 call0_v31)
    (h_call0_v33 : call0_v33 = broadcastInDim S16384x64 ![0, 1] bcast_S1x1_S16384x64_0_1 call0_v2)
    (h_v10 : v10 = maximumf (F := Ideal) (φ := .f32) call0_v33 call0_v32)
    (h_cst_3 : cst_3 = constant (F := Ideal) S_ .f32 0x1E3CE508#32)
    (h_v11 : v11 = broadcastInDim S16384x64 ![] bcast_S_S16384x64 cst_3)
    (h_v12 : v12 = addf (F := Ideal) (φ := .f32) v10 v11)
    (h_v13 : v13 = Host.log (F := Ideal) (φ := .f32) v12)
    (h_v14 : v14 = Host.negf (F := Ideal) (φ := .f32) v13)
    (h_cst_4 : cst_4 = constant (F := Ideal) S_ .f32 0x1E3CE508#32)
    (h_v15 : v15 = broadcastInDim S16384x64 ![] bcast_S_S16384x64 cst_4)
    (h_v16 : v16 = addf (F := Ideal) (φ := .f32) v14 v15)
    (h_v17 : v17 = Host.log (F := Ideal) (φ := .f32) v16)
    (h_v18 : v18 = Host.negf (F := Ideal) (φ := .f32) v17) (i : S16384x64.Idx) :
    v18 i = Draw.gumbel (Draw.unif (call0_v20 i)) := by
  subst h_v18 h_v17 h_v16 h_v15 h_cst_4 h_v14 h_v13 h_v12 h_v11 h_cst_3 h_v10 h_call0_v33 h_call0_v32 h_call0_v31 h_call0_v30 h_call0_v29 h_call0_v28 h_call0_v27 h_call0_v26 h_call0_cst h_call0_v25 h_call0_v24 h_call0_v23 h_call0_c_3 h_call0_v22 h_call0_v21 h_call0_c_2 h_call0_v3 h_call0_v2 h_call0_v1 h_call0_v0 h_cst_2 h_cst
  show -Ideal.log (-Ideal.log (max (Ideal.ofBits .f32 0x00000000#32)
      ((Ideal.ofBits .f32 ((call0_v20 i >>> 9) ||| 1065353216#32) - Ideal.ofBits .f32 0x3F800000#32)
        * (Ideal.ofBits .f32 0x3F800000#32 - Ideal.ofBits .f32 0x00000000#32) + Ideal.ofBits .f32 0x00000000#32)
      + Ideal.ofBits .f32 0x1E3CE508#32) + Ideal.ofBits .f32 0x1E3CE508#32) = _
  rw [Ideal.ofBits_zero_f32, Ideal.ofBits_one_f32]
  rfl

/-- Every operation of a list holds between a program's buffers. -/
def All (A : Valuation τ sig (Elt Ideal)) : List Host.Op → Prop
  | [] => True
  | s :: t => s.Holds A ∧ All A t

/-- What each operation of a list satisfies, the list satisfies. -/
theorem all_of {A : Valuation τ sig (Elt Ideal)} : (l : List Host.Op) → (∀ s ∈ l, s.Holds A) → All A l
  | [], _ => trivial
  | _ :: t, h => ⟨h _ (List.mem_cons_self ..), all_of t fun s hs => h s (List.mem_cons_of_mem _ hs)⟩

/-- Every entry of the noise is the transform of a draw from that entry's random word. -/
theorem noise_eq {A : Valuation τ sig (Elt Ideal)} (H : ∀ s ∈ Host.steps, s.Holds A) (i : S16384x64.Idx) :
    (A (Proc.devRef .tc main_v18) : Vec Ideal S16384x64 .f32) i =
      Draw.gumbel (Draw.unif ((A (Proc.devRef .tc main_call0_v20) : Vec Ideal S16384x64 .i32) i)) := by
  have hn : All A Host.noise := all_of _ fun s h => H s (by
    unfold Host.steps; simp only [List.mem_append]; exact .inr (.inr (.inr (.inr (.inr h)))))
  have hk : All A Host.key := all_of _ fun s h => H s (by
    unfold Host.steps; simp only [List.mem_append]; exact .inl h)
  have hd : All A Host.draw0 := all_of _ fun s h => H s (by
    unfold Host.steps; simp only [List.mem_append]; exact .inr (.inl h))
  unfold Host.key at hk
  unfold Host.draw0 at hd
  unfold Host.noise at hn
  simp only [All] at hk hd hn
  obtain ⟨-, -, -, -, -, -, -, -, -, -, k0, k1, -⟩ := hk
  obtain ⟨d0, d1, d2, d3, -⟩ := hd
  obtain ⟨n0, n1, n2, n3, n4, n5, n6, n7, n8, n9, n10, n11, n12, n13, n14, n15, n16, n17, n18, n19, n20, n21, n22, n23, n24, n25, n26, -⟩ := hn
  unfold Tape.Step.Holds at k0 k1 d0 d1 d2 d3 n0 n1 n2 n3 n4 n5 n6 n7 n8 n9 n10 n11 n12 n13 n14 n15 n16 n17 n18 n19 n20 n21 n22 n23 n24 n25 n26
  simp only [Tape.Step.outTy, Tape.Step.out, Tape.Step.val] at k0 k1 d0 d1 d2 d3 n0 n1 n2 n3 n4 n5 n6 n7 n8 n9 n10 n11 n12 n13 n14 n15 n16 n17 n18 n19 n20 n21 n22 n23 n24 n25 n26
  exact chain (A (Proc.devRef .tc main_call0_v20)) (A (Proc.devRef .tc main_cst)) (A (Proc.devRef .tc main_cst_2)) (A (Proc.devRef .tc main_call0_v0)) (A (Proc.devRef .tc main_call0_v1)) (A (Proc.devRef .tc main_call0_v2)) (A (Proc.devRef .tc main_call0_v3)) (A (Proc.devRef .tc main_call0_c_2)) (A (Proc.devRef .tc main_call0_v21)) (A (Proc.devRef .tc main_call0_v22)) (A (Proc.devRef .tc main_call0_c_3)) (A (Proc.devRef .tc main_call0_v23)) (A (Proc.devRef .tc main_call0_v24)) (A (Proc.devRef .tc main_call0_v25)) (A (Proc.devRef .tc main_call0_cst)) (A (Proc.devRef .tc main_call0_v26)) (A (Proc.devRef .tc main_call0_v27)) (A (Proc.devRef .tc main_call0_v28)) (A (Proc.devRef .tc main_call0_v29)) (A (Proc.devRef .tc main_call0_v30)) (A (Proc.devRef .tc main_call0_v31)) (A (Proc.devRef .tc main_call0_v32)) (A (Proc.devRef .tc main_call0_v33)) (A (Proc.devRef .tc main_v10)) (A (Proc.devRef .tc main_cst_3)) (A (Proc.devRef .tc main_v11)) (A (Proc.devRef .tc main_v12)) (A (Proc.devRef .tc main_v13)) (A (Proc.devRef .tc main_v14)) (A (Proc.devRef .tc main_cst_4)) (A (Proc.devRef .tc main_v15)) (A (Proc.devRef .tc main_v16)) (A (Proc.devRef .tc main_v17)) (A (Proc.devRef .tc main_v18))
    k0 k1 d0 d1 d2 d3 n0 n1 n2 n3 n4 n5 n6 n7 n8 n9 n10 n11 n12 n13 n14 n15 n16 n17 n18 n19 n20 n21 n22 n23 n24 n25 n26 i

/-- Every entry of the noise is a real number. -/
theorem noise_real (W : Valuation τ sig (Elt Ideal)) (i : S16384x64.Idx) :
    ∃ r : ℝ, (after Line.noiseOps W (Proc.devRef .tc main_v18) : Vec Ideal S16384x64 .f32) i = (r : EReal) := by
  have H : ∀ s ∈ Host.steps, s.Holds (after Line.noiseOps W) := Tape.holds Host.steps 4 W Host.steps_ok
  generalize after Line.noiseOps W = A at H ⊢
  obtain ⟨r, h⟩ := Draw.gumbel_real ((A (Proc.devRef .tc main_call0_v20) : Vec Ideal S16384x64 .i32) i)
  exact ⟨r, (noise_eq H i).trans h⟩

end Cert.ReferenceIdeal.Noise

end
-- ==== Proof.Row.lean ====
/-
  One row of 64 numbers, on real numbers: the first position of its greatest entry; the kernel's way to it, by the sum of
  the powers of two of the greatest entry's positions and that sum's exponent; and the softmax, as the kernel and as the
  reference write it.
-/
module

public import Idealize.ShloMosaic.Lib.Pointwise

@[expose] public section

noncomputable section

namespace Cert.Row

open Idealize.ShloMosaic

/-! ### The first position of the greatest entry -/

/-- `k` is the first position at which the row takes its greatest value. -/
def IsFirst (w : Fin 64 → EReal) (k : Fin 64) : Prop := (∀ l, w l ≤ w k) ∧ ∀ l, w l = w k → k ≤ l

/-- Every row has such a position. -/
theorem exists_first (w : Fin 64 → EReal) : ∃ k, IsFirst w k := by
  obtain ⟨m, hm⟩ := Finite.exists_max w
  have hne : (Finset.univ.filter fun l => w l = w m).Nonempty := ⟨m, by simp⟩
  have hk := Finset.min'_mem _ hne
  rw [Finset.mem_filter] at hk
  refine ⟨Finset.min' _ hne, fun l => (hm l).trans hk.2.ge, fun l hl => Finset.min'_le _ _ ?_⟩
  rw [Finset.mem_filter]
  exact ⟨Finset.mem_univ _, hl.trans hk.2⟩

/-- It is one position. -/
theorem IsFirst.unique {w : Fin 64 → EReal} {k k' : Fin 64} (h : IsFirst w k) (h' : IsFirst w k') : k = k' :=
  le_antisymm (h.2 _ (le_antisymm (h.1 _) (h'.1 _))) (h'.2 _ (le_antisymm (h'.1 _) (h.1 _)))

/-- It depends on the order of the entries alone. -/
theorem IsFirst.of_order {w y : Fin 64 → EReal} (h : ∀ a b, y a ≤ y b ↔ w a ≤ w b) {k : Fin 64} (hk : IsFirst w k) :
    IsFirst y k :=
  ⟨fun l => (h _ _).mpr (hk.1 l), fun l hl => hk.2 l (le_antisymm ((h _ _).mp hl.le) ((h _ _).mp hl.ge))⟩

/-- The word of minus infinity. -/
theorem ofBits_neg_inf : Ideal.ofBits .f32 0xFF800000#32 = ⊥ := by simp [Ideal.ofBits, Ideal.ieee]

/-- The greatest entry, as a fold of `max` from minus infinity. -/
theorem fold_max {w : Fin 64 → EReal} {k : Fin 64} (h : IsFirst w k) :
    Finset.fold max (Ideal.ofBits .f32 4286578688#32) w Finset.univ = w k := by
  rw [show Ideal.ofBits .f32 4286578688#32 = ⊥ from ofBits_neg_inf]
  exact le_antisymm (Finset.fold_max_le (w k) |>.mpr ⟨bot_le, fun l _ => h.1 l⟩)
    (Finset.le_fold_max (w k) |>.mpr (.inr ⟨k, Finset.mem_univ _, le_rfl⟩))

/-! ### The position through powers of two -/

/-- A float word made of an exponent field alone, as a number. -/
theorem shl_toNat (n : ℕ) (h : n ≤ 255) : (BitVec.ofNat 32 n <<< 23).toNat = n * 2 ^ 23 := by
  simp only [BitVec.toNat_shiftLeft, BitVec.toNat_ofNat, Nat.shiftLeft_eq]
  omega

/-- A word with the exponent field `n` alone, for a normal exponent: a power of two. -/
theorem ofBits_pow (n : ℕ) (h₀ : 1 ≤ n) (h : n ≤ 254) :
    Ideal.ofBits .f32 (BitVec.ofNat 32 n <<< 23) = (((2 : ℝ) ^ ((n : ℤ) - 127) : ℝ) : EReal) := by
  have ht := shl_toNat n (by omega)
  generalize BitVec.ofNat 32 n <<< 23 = m at ht ⊢
  show Ideal.ieee 8 23 m = _
  have hs : m.extractLsb' (8 + 23) 1 = 0#1 := BitVec.eq_of_toNat_eq (by
    rw [BitVec.extractLsb'_toNat, ht, Nat.shiftRight_eq_div_pow]; simp only [BitVec.toNat_ofNat]; omega)
  have he : (m.extractLsb' 23 8).toNat = n := by
    rw [BitVec.extractLsb'_toNat, ht, Nat.shiftRight_eq_div_pow]; omega
  have hf : (m.extractLsb' 0 23).toNat = 0 := by
    rw [BitVec.extractLsb'_toNat, ht, Nat.shiftRight_eq_div_pow]; omega
  unfold Ideal.ieee
  rw [hs, he, hf]
  rw [if_neg (by omega), if_neg (by omega)]
  congr 1
  have : ((n : ℤ) - 127 : ℤ) = 23 + ((n : ℤ) - (2 ^ (8 - 1) - 1) - (23 : ℕ)) := by push_cast; ring
  rw [this, zpow_add₀ (by norm_num)]
  norm_num

/-- The word with the greatest exponent field and no fraction: infinity. -/
theorem ofBits_top : Ideal.ofBits .f32 (BitVec.ofNat 32 255 <<< 23) = ⊤ := by
  simp [Ideal.ofBits, Ideal.ieee]

/-- The power that stands for position `l`. -/
theorem ofBits_weight (l : Fin 64) :
    Ideal.ofBits .f32 (IntOp.shli .vector (IntOp.subi (190#32) (BitVec.ofNat 32 l)) 23#32) = ((2 ^ (63 - l.val) : ℕ) : EReal) := by
  have hl := l.isLt
  have h : IntOp.shli .vector (IntOp.subi (190#32) (BitVec.ofNat 32 l)) 23#32 = BitVec.ofNat 32 (190 - l.val) <<< 23 := by
    revert l; decide
  rw [h, ofBits_pow _ (by omega) (by omega), show (((190 - l.val : ℕ) : ℤ) - 127) = ((63 - l.val : ℕ) : ℤ) by omega, zpow_natCast,
    ← EReal.coe_natCast, Nat.cast_pow, Nat.cast_ofNat]

/-- The sum of the powers that stand for the positions of the greatest entry. -/
def total (w : Fin 64 → EReal) (k : Fin 64) : ℕ := ∑ l : Fin 64, if w l = w k then 2 ^ (63 - l.val) else 0

/-- The sum holds the power of the position itself. -/
theorem le_total (w : Fin 64 → EReal) (k : Fin 64) : 2 ^ (63 - k.val) ≤ total w k := by
  unfold total
  refine le_trans (by rw [if_pos rfl]) (Finset.single_le_sum (f := fun l : Fin 64 => if w l = w k then 2 ^ (63 - l.val) else 0)
    (fun _ _ => Nat.zero_le _) (Finset.mem_univ k))

/-- The powers from a position on sum to less than twice that position's power. -/
theorem tail_lt : ∀ k : Fin 64, (∑ l : Fin 64, if k ≤ l then 2 ^ (63 - l.val) else 0) < 2 ^ (64 - k.val) := by decide +kernel

/-- From the first greatest position the sum is less than twice that position's power. -/
theorem total_lt {w : Fin 64 → EReal} {k : Fin 64} (h : IsFirst w k) : total w k < 2 ^ (64 - k.val) := by
  refine lt_of_le_of_lt (Finset.sum_le_sum fun l _ => ?_) (tail_lt k)
  by_cases hl : w l = w k
  · rw [if_pos hl, if_pos (h.2 l hl)]
  · rw [if_neg hl]; exact Nat.zero_le _

/-- The total, as the kernel sums it. -/
theorem total_eq {w : Fin 64 → EReal} {k : Fin 64} (h : IsFirst w k) :
    (∑ x : Fin 64, (if w x = Finset.fold max (Ideal.ofBits .f32 4286578688#32) (fun x => w x) Finset.univ then (1 : EReal) else 0) *
      Ideal.ofBits .f32 (IntOp.shli .vector (IntOp.subi (190#32) (BitVec.ofNat 32 x)) 23#32)) = ((total w k : ℕ) : EReal) := by
  rw [fold_max h]
  unfold total
  rw [Nat.cast_sum]
  refine Finset.sum_congr rfl fun x _ => ?_
  rw [ofBits_weight]
  by_cases hx : w x = w k
  · rw [if_pos hx, if_pos hx, one_mul]
  · rw [if_neg hx, if_neg hx, zero_mul, Nat.cast_zero]

/-- A threshold lies at or below the total exactly when its exponent does. -/
theorem threshold_le {w : Fin 64 → EReal} {k : Fin 64} (h : IsFirst w k) (x : Fin 255) :
    Ideal.ofBits .f32 (IntOp.shli .vector (IntOp.addi (BitVec.ofNat 32 x) 1#32) 23#32) ≤ ((total w k : ℕ) : EReal) ↔
      x.val + 1 ≤ 190 - k.val := by
  have hk := k.isLt
  have hx := x.isLt
  have e : IntOp.shli .vector (IntOp.addi (BitVec.ofNat 32 x) 1#32) 23#32 = BitVec.ofNat 32 (x.val + 1) <<< 23 := by
    revert x; decide
  rw [e]
  rcases Nat.lt_or_ge x.val 254 with h254 | h254
  · rw [ofBits_pow _ (by omega) (by omega), ← EReal.coe_natCast, EReal.coe_le_coe_iff]
    constructor
    · intro hle
      by_contra hc
      have h₁ : ((total w k : ℕ) : ℝ) < 2 ^ (64 - k.val) := by exact_mod_cast total_lt h
      have h₂ : (2 : ℝ) ^ (64 - k.val) ≤ 2 ^ (((x.val + 1 : ℕ) : ℤ) - 127) := by
        rw [← zpow_natCast]
        exact zpow_le_zpow_right₀ (by norm_num) (by omega)
      linarith
    · intro hle
      have h₁ : (2 : ℝ) ^ (63 - k.val) ≤ ((total w k : ℕ) : ℝ) := by exact_mod_cast le_total w k
      have h₂ : (2 : ℝ) ^ (((x.val + 1 : ℕ) : ℤ) - 127) ≤ 2 ^ (63 - k.val) := by
        rw [← zpow_natCast]
        exact zpow_le_zpow_right₀ (by norm_num) (by omega)
      linarith
  · have : x.val + 1 = 255 := by omega
    rw [this, ofBits_top, top_le_iff]
    constructor
    · intro ht; exact absurd ht (EReal.natCast_ne_top _)
    · intro ht; omega

/-- How many of 255 steps lie up to a bound. -/
theorem count_eq : ∀ k : Fin 64, (∑ x : Fin 255, if x.val + 1 ≤ 190 - k.val then 1 else 0) = 190 - k.val := by decide +kernel

/-- A small natural number converts to its word. -/
theorem fptosi_nat (n : ℕ) (h : n ≤ 255) : Ideal.fptosi 32 ((n : ℕ) : EReal) = BitVec.ofNat 32 n := by
  rw [← EReal.coe_natCast]
  show BitVec.ofInt 32 (max _ (min _ (if 0 ≤ (n : ℝ) then ⌊(n : ℝ)⌋ else ⌈(n : ℝ)⌉))) = _
  rw [if_pos (by positivity), Int.floor_natCast, min_eq_right (by norm_num; omega), max_eq_right (by norm_num)]
  exact BitVec.ofInt_natCast _ _

/-- The kernel's index is the first position of the greatest entry. -/
theorem kernel_index {w : Fin 64 → EReal} {k : Fin 64} (h : IsFirst w k) :
    IntOp.subi (63#32) (IntOp.subi (Ideal.fptosi 32 (∑ x : Fin 255,
      if Ideal.ofBits .f32 (IntOp.shli .vector (IntOp.addi (BitVec.ofNat 32 x) 1#32) 23#32) ≤
        ∑ x : Fin 64, (if w x = Finset.fold max (Ideal.ofBits .f32 4286578688#32) (fun x => w x) Finset.univ then (1 : EReal) else 0) *
          Ideal.ofBits .f32 (IntOp.shli .vector (IntOp.subi (190#32) (BitVec.ofNat 32 x)) 23#32)
      then (1 : EReal) else 0)) 127#32) = BitVec.ofNat 32 k := by
  have hs : (∑ x : Fin 255,
      if Ideal.ofBits .f32 (IntOp.shli .vector (IntOp.addi (BitVec.ofNat 32 x) 1#32) 23#32) ≤
        ∑ x : Fin 64, (if w x = Finset.fold max (Ideal.ofBits .f32 4286578688#32) (fun x => w x) Finset.univ then (1 : EReal) else 0) *
          Ideal.ofBits .f32 (IntOp.shli .vector (IntOp.subi (190#32) (BitVec.ofNat 32 x)) 23#32)
      then (1 : EReal) else 0) = ((190 - k.val : ℕ) : EReal) := by
    rw [total_eq h, ← count_eq k, Nat.cast_sum]
    refine Finset.sum_congr rfl fun x _ => ?_
    by_cases hx : x.val + 1 ≤ 190 - k.val
    · rw [if_pos ((threshold_le h x).mpr hx), if_pos hx, Nat.cast_one]
    · rw [if_neg (fun hc => hx ((threshold_le h x).mp hc)), if_neg hx, Nat.cast_zero]
  rw [hs, fptosi_nat _ (by omega)]
  clear hs h
  revert k
  decide

/-! ### The softmax -/

/-- The quotient of two reals. -/
theorem div_coe (a b : ℝ) (hb : b ≠ 0) : Ideal.div (a : EReal) (b : EReal) = ((a / b : ℝ) : EReal) := by
  unfold Ideal.div
  rw [if_neg (by simpa using hb), ← EReal.coe_inv, ← EReal.coe_mul]
  rfl

/-- A sum of reals is the same among the extended reals. -/
theorem sum_coe (f : Fin 64 → ℝ) : (∑ x, ((f x : ℝ) : EReal)) = ((∑ x, f x : ℝ) : EReal) := by
  induction (Finset.univ : Finset (Fin 64)) using Finset.cons_induction with
  | empty => simp
  | cons a s ha ih => rw [Finset.sum_cons, Finset.sum_cons, ih, EReal.coe_add]

/-- The softmax of a row of reals, scaled by `c`. -/
def soft (c : ℝ) (w : Fin 64 → ℝ) (l : Fin 64) : ℝ := Real.exp (w l * c) / ∑ x, Real.exp (w x * c)

/-- A sum of exponentials is positive. -/
theorem sum_pos (c : ℝ) (w : Fin 64 → ℝ) : 0 < ∑ x, Real.exp (w x * c) :=
  Finset.sum_pos (fun _ _ => Real.exp_pos _) ⟨0, Finset.mem_univ _⟩

/-- The softmax as the kernel writes it. -/
theorem kernel_soft (c : ℝ) (w : Fin 64 → ℝ) (l : Fin 64) :
    Ideal.exp ((w l : EReal) * (c : EReal)) * Ideal.div 1 (∑ x, Ideal.exp ((w x : EReal) * (c : EReal))) = (soft c w l : EReal) := by
  have h (x : Fin 64) : Ideal.exp ((w x : EReal) * (c : EReal)) = ((Real.exp (w x * c) : ℝ) : EReal) := by
    rw [← EReal.coe_mul, Ideal.exp_coe]
  simp only [h]
  rw [sum_coe, ← EReal.coe_one, div_coe _ _ (sum_pos c w).ne', ← EReal.coe_mul]
  congr 1
  unfold soft
  ring

/-- The softmax as the reference writes it: the row divided by the temperature, its greatest entry taken off. -/
theorem reference_soft (c d : ℝ) (hd : d ≠ 0) (hc : c = 1 / d) (w : Fin 64 → ℝ) (l : Fin 64) :
    Ideal.div (Ideal.exp (Ideal.div (w l : EReal) (d : EReal) - max (Ideal.ofBits .f32 4286578688#32)
        (Finset.fold max (Ideal.ofBits .f32 4286578688#32) (fun x => Ideal.div (w x : EReal) (d : EReal)) Finset.univ)))
      (∑ x, Ideal.exp (Ideal.div (w x : EReal) (d : EReal) - max (Ideal.ofBits .f32 4286578688#32)
        (Finset.fold max (Ideal.ofBits .f32 4286578688#32) (fun x => Ideal.div (w x : EReal) (d : EReal)) Finset.univ))) =
      (soft c w l : EReal) := by
  have hz (x : Fin 64) : Ideal.div (w x : EReal) (d : EReal) = ((w x * c : ℝ) : EReal) := by
    rw [div_coe _ _ hd, hc]; congr 1; ring
  simp only [hz]
  obtain ⟨k, hk⟩ := exists_first fun x => ((w x * c : ℝ) : EReal)
  rw [fold_max hk, show Ideal.ofBits .f32 4286578688#32 = ⊥ from ofBits_neg_inf, max_eq_right bot_le]
  have he (x : Fin 64) : Ideal.exp (((w x * c : ℝ) : EReal) - ((w k * c : ℝ) : EReal)) =
      ((Real.exp (w x * c) * Real.exp (-(w k * c)) : ℝ) : EReal) := by
    rw [← EReal.coe_sub, Ideal.exp_coe, ← Real.exp_add]; rfl
  simp only [he]
  rw [sum_coe, ← Finset.sum_mul, div_coe _ _ (mul_pos (sum_pos c w) (Real.exp_pos _)).ne']
  congr 1
  unfold soft
  rw [mul_div_mul_right _ _ (Real.exp_pos _).ne']

/-- The softmax keeps the row's order, so its first greatest position is the row's. -/
theorem soft_first {c : ℝ} (hc : 0 < c) {w : Fin 64 → ℝ} {k : Fin 64} (h : IsFirst (fun x => (w x : EReal)) k) :
    IsFirst (fun x => (soft c w x : EReal)) k := by
  refine h.of_order fun a b => ?_
  rw [EReal.coe_le_coe_iff, EReal.coe_le_coe_iff]
  unfold soft
  rw [div_le_div_iff_of_pos_right (sum_pos c w), Real.exp_le_exp, mul_le_mul_iff_left₀ hc]

/-- The straight-through row takes its greatest value, one, at the chosen position first. -/
theorem hard_first (y : Fin 64 → ℝ) (k : Fin 64) :
    IsFirst (fun x => ((if x = k then (1 : EReal) else 0) - (y x : EReal)) + (y x : EReal)) k := by
  have h (x : Fin 64) : ((if x = k then (1 : EReal) else 0) - (y x : EReal)) + (y x : EReal) = if x = k then 1 else 0 := by
    by_cases hx : x = k
    · rw [if_pos hx, ← EReal.coe_one, ← EReal.coe_sub, ← EReal.coe_add]; congr 1; ring
    · rw [if_neg hx, ← EReal.coe_zero, ← EReal.coe_sub, ← EReal.coe_add]; congr 1; ring
  rw [funext h]
  refine ⟨fun l => ?_, fun l hl => ?_⟩
  · show (if l = k then (1 : EReal) else 0) ≤ if k = k then 1 else 0
    rw [if_pos rfl]; split <;> simp
  · replace hl : (if l = k then (1 : EReal) else 0) = if k = k then 1 else 0 := hl
    rw [if_pos rfl] at hl
    by_cases hx : l = k
    · exact hx.ge
    · rw [if_neg hx] at hl; simp at hl

end Cert.Row

end
-- ==== Proof.BlockValue.lean ====
/-
  The kernel body's results of one block of 1024 rows, read at an index: the noisy logits, the index words and the softmax.
-/
module

public import proofs.«01_k».proof.Proof.Gen.KernelIdeal.Value
public import proofs.«01_k».proof.Proof.Row

@[expose] public section

set_option maxRecDepth 16384
set_option Elab.async false

noncomputable section

namespace Cert.KernelIdeal.Block

open Idealize.ShloMosaic
open KernelIdeal KernelIdeal.Gen KernelIdeal.Facts₀ KernelIdeal.Facts

variable (P0 : Vec Ideal S1024x4096 .f32) (P1 : Vec Ideal S4096x64 .f32) (P2 : Vec Ideal S1024x64 .f32)

/-- A noisy logit: the product's entry and the noise. -/
theorem logit_at (r : Fin 1024) (l : Fin 64) :
    k0_pay3 P0 P1 P2 (ix2 r l) = (∑ k : Fin 4096, P0 (ix2 r k) * P1 (ix2 k l)) + P2 (ix2 r l) := by
  pointwise [k0_pay3]

/-- The literal for the inverse temperature, as named. -/
theorem inv_t : (Named.named (F := Ideal) (φ := .f32) κ "inv_t" 0x40200000#32) = ((33554432 / 13421773 : ℝ) : EReal) :=
  IdealRules.named_const.ideal_named_scalar _ _ _ _ rfl

/-- The softmax's entry. -/
theorem soft_at (v : FVec Ideal S1024x64 .f32) (r : Fin 1024) (w : Fin 64 → ℝ) (hw : ∀ l, v (ix2 r l) = (w l : EReal)) (l : Fin 64) :
    k0_pay2 v (ix2 r l) = (Row.soft (33554432 / 13421773) w l : EReal) := by
  have h : k0_pay2 v (ix2 r l) = Ideal.exp (v (ix2 r l) * Named.named (F := Ideal) (φ := .f32) κ "inv_t" 0x40200000#32) *
      Ideal.div 1 (∑ x, Ideal.exp (v (ix2 r x) * Named.named (F := Ideal) (φ := .f32) κ "inv_t" 0x40200000#32)) := by
    pointwise [k0_pay2]
  rw [h, inv_t]
  simp only [hw]
  exact Row.kernel_soft _ w l

/-- The index word: the first position of the row's greatest noisy logit. -/
theorem index_at (r : Fin 1024) {k : Fin 64} (hk : Row.IsFirst (fun l => k0_pay3 P0 P1 P2 (ix2 r l)) k) :
    k0_pay1 (k0_pay4 P0 P1 P2) (ix1 r) = BitVec.ofNat 32 k := by
  refine Eq.trans ?_ (Row.kernel_index hk)
  pointwise [k0_pay4, k0_pay1]
  rfl

end Cert.KernelIdeal.Block

end
-- ==== Proof.Arrays.lean ====
/-
  The kernel's two result arrays row by row: its sixteen blocks of 1024 rows tile them, and each block is the body's
  values (BlockValue.lean) of the input arrays' rows under it.
-/
module

public import proofs.«01_k».proof.Proof.BlockValue

@[expose] public section

set_option maxRecDepth 16384
set_option Elab.async false

noncomputable section

namespace Cert.KernelIdeal.Arrays

open Idealize.ShloMosaic Idealize.ShloMosaic.TcCoe
open KernelIdeal KernelIdeal.Gen KernelIdeal.Facts₀ KernelIdeal.Facts

variable (m : (ℓ : Loc nD τ sig) → Buf (Elt Ideal) ℓ) (c : Dev nD)

/-- Where the windows' blocks lie: the point's number along the rows, all of the other axis. -/
theorem places : ∀ t : Fin grid0.N, win0_0.index t 0 = t.val ∧ win0_0.index t 1 = 0 ∧ win0_1.index t 0 = 0 ∧ win0_1.index t 1 = 0 ∧
    win0_2.index t 0 = t.val ∧ win0_2.index t 1 = 0 ∧ win0_3.index t 0 = t.val ∧ win0_3.index t 1 = 0 ∧ win0_4.index t 0 = t.val := by
  decide +kernel

/-- Row `r` of block `t`. -/
def rowAt (t : Fin grid0.N) (r : Fin 1024) : Fin 16384 := ⟨t.val * 1024 + r.val, by have h : t.val < grid0.N := t.isLt; have e := N_0; omega⟩

/-- A window's block of 1024 token rows, of whatever the array holds. -/
theorem read0 (X : (⟨S16384x4096, .f32⟩ : BufTy).Contents (Elt Ideal)) (t : Fin cfg0.N) (r : Fin 1024) (k : Fin 4096) :
    (((cfg0.win 0).blk t).view.read (Elt Ideal) X : Vec Ideal S1024x4096 .f32) (ix2 r k) = X (ix2 (rowAt t r) k) := by
  rw [View.read_apply]
  show X _ = _
  congr 1
  funext a
  apply Fin.ext
  match a with
  | ⟨0, _⟩ => show win0_0.index t 0 * 1024 + 1 * r.val = t.val * 1024 + r.val; rw [(places t).1]; omega
  | ⟨1, _⟩ => show win0_0.index t 1 * 4096 + 1 * k.val = k.val; rw [(places t).2.1]; omega

/-- The block of the weights is the whole of them. -/
theorem read1 (X : (⟨S4096x64, .f32⟩ : BufTy).Contents (Elt Ideal)) (t : Fin cfg0.N) (k : Fin 4096) (l : Fin 64) :
    (((cfg0.win 1).blk t).view.read (Elt Ideal) X : Vec Ideal S4096x64 .f32) (ix2 k l) = X (ix2 k l) := by
  rw [View.read_apply]
  show X _ = _
  congr 1
  funext a
  apply Fin.ext
  match a with
  | ⟨0, _⟩ => show win0_1.index t 0 * 4096 + 1 * k.val = k.val; rw [(places t).2.2.1]; omega
  | ⟨1, _⟩ => show win0_1.index t 1 * 64 + 1 * l.val = l.val; rw [(places t).2.2.2.1]; omega

/-- A window's block of 1024 noise rows. -/
theorem read2 (X : (⟨S16384x64, .f32⟩ : BufTy).Contents (Elt Ideal)) (t : Fin cfg0.N) (r : Fin 1024) (l : Fin 64) :
    (((cfg0.win 2).blk t).view.read (Elt Ideal) X : Vec Ideal S1024x64 .f32) (ix2 r l) = X (ix2 (rowAt t r) l) := by
  rw [View.read_apply]
  show X _ = _
  congr 1
  funext a
  apply Fin.ext
  match a with
  | ⟨0, _⟩ => show win0_2.index t 0 * 1024 + 1 * r.val = t.val * 1024 + r.val; rw [(places t).2.2.2.2.1]; omega
  | ⟨1, _⟩ => show win0_2.index t 1 * 64 + 1 * l.val = l.val; rw [(places t).2.2.2.2.2.1]; omega

/-- A noisy logit over whole arrays: the product's entry and the noise. -/
def noisy (T : FVec Ideal S16384x4096 .f32) (W : FVec Ideal S4096x64 .f32) (N : FVec Ideal S16384x64 .f32) (R : Fin 16384) (l : Fin 64) : EReal :=
  (∑ k : Fin 4096, T (ix2 R k) * W (ix2 k l)) + N (ix2 R l)

/-- The body's noisy logits are those of whole arrays whose rows it is given. -/
theorem logit_rows {P0 : FVec Ideal S1024x4096 .f32} {P1 : FVec Ideal S4096x64 .f32} {P2 : FVec Ideal S1024x64 .f32}
    {T : FVec Ideal S16384x4096 .f32} {W : FVec Ideal S4096x64 .f32} {N : FVec Ideal S16384x64 .f32} {r : Fin 1024} {R : Fin 16384}
    (h0 : ∀ k, P0 (ix2 r k) = T (ix2 R k)) (h1 : ∀ k l, P1 (ix2 k l) = W (ix2 k l)) (h2 : ∀ l, P2 (ix2 r l) = N (ix2 R l)) (l : Fin 64) :
    k0_pay3 (F := Ideal) P0 P1 P2 (ix2 r l) = noisy T W N R l := by
  rw [Block.logit_at]
  simp only [h0, h1, h2]
  rfl

variable (T : FVec Ideal S16384x4096 .f32) (W : FVec Ideal S4096x64 .f32) (N : FVec Ideal S16384x64 .f32)

/-- The region finds the tokens `T`, the weights `W` and the noise `N` in its input arrays: each point's blocks are theirs. -/
structure Finds : Prop where
  h0 : ∀ t, (iblk m c 0 t : Vec Ideal S1024x4096 .f32) = (((cfg0.win 0).blk t).view.read (Elt Ideal) (T : (⟨S16384x4096, .f32⟩ : BufTy).Contents (Elt Ideal)) : Vec Ideal S1024x4096 .f32)
  h1 : ∀ t, (iblk m c 1 t : Vec Ideal S4096x64 .f32) = (((cfg0.win 1).blk t).view.read (Elt Ideal) (W : (⟨S4096x64, .f32⟩ : BufTy).Contents (Elt Ideal)) : Vec Ideal S4096x64 .f32)
  h2 : ∀ t, (iblk m c 2 t : Vec Ideal S1024x64 .f32) = (((cfg0.win 2).blk t).view.read (Elt Ideal) (N : (⟨S16384x64, .f32⟩ : BufTy).Contents (Elt Ideal)) : Vec Ideal S1024x64 .f32)

variable {m c T W N}

/-- The body's noisy logits at a point are those of the rows under the point's block. -/
theorem logit_block (hf : Finds m c T W N) (t : Fin cfg0.N) (r : Fin 1024) (l : Fin 64) :
    k0_pay3 (F := Ideal) (iblk m c 0 t) (iblk m c 1 t) (iblk m c 2 t) (ix2 r l) = noisy T W N (rowAt t r) l := by
  have h0 := hf.h0 t
  have h1 := hf.h1 t
  have h2 := hf.h2 t
  generalize (iblk m c 0 t : Vec Ideal S1024x4096 .f32) = P0 at h0 ⊢
  generalize (iblk m c 1 t : Vec Ideal S4096x64 .f32) = P1 at h1 ⊢
  generalize (iblk m c 2 t : Vec Ideal S1024x64 .f32) = P2 at h2 ⊢
  exact logit_rows (fun k => by rw [h0]; exact read0 T t r k) (fun k l => by rw [h1]; exact read1 W t k l)
    (fun l => by rw [h2]; exact read2 N t r l) l

/-- Two zeros, as the zero tuple. -/
theorem zeros2 : (![0, 0] : Fin 2 → ℕ) = fun _ => 0 := funext fun a => by fin_cases a <;> rfl
/-- One zero, as the zero tuple. -/
theorem zeros1 : (![0] : Fin 1 → ℕ) = fun _ => 0 := funext fun a => by fin_cases a; rfl

/-- What the body leaves for the softmax, its blocks read and written whole. -/
theorem out3 (P0 : Vec Ideal S1024x4096 .f32) (P1 : Vec Ideal S4096x64 .f32) (P2 : Vec Ideal S1024x64 .f32) :
    out0_3 P0 P1 P2 = k0_pay2 (k0_pay3 P0 P1 P2) := by
  unfold out0_3
  rw [View.canon_unit_zero zeros2, View.ld_unit_zero (S := S1024x4096) zeros2, View.ld_unit_zero (S := S4096x64) zeros2,
    View.ld_unit_zero (S := S1024x64) zeros2]

/-- What the body leaves for the indices. -/
theorem out4 (P0 : Vec Ideal S1024x4096 .f32) (P1 : Vec Ideal S4096x64 .f32) (P2 : Vec Ideal S1024x64 .f32) :
    out0_4 P0 P1 P2 = k0_pay1 (k0_pay4 P0 P1 P2) := by
  unfold out0_4
  rw [View.canon_unit_zero zeros1, View.ld_unit_zero (S := S1024x4096) zeros2, View.ld_unit_zero (S := S4096x64) zeros2,
    View.ld_unit_zero (S := S1024x64) zeros2]

/-- The point whose block holds a row. -/
def pointOf (R : Fin 16384) : Fin cfg0.N := ⟨R.val / 1024, by have e := N_0; show R.val / 1024 < grid0.N; omega⟩

/-- The softmax array, where the noisy logits are the reals `w`. -/
theorem soft_array (hf : Finds m c T W N) (w : Fin 16384 → Fin 64 → ℝ) (hw : ∀ R l, noisy T W N R l = (w R l : EReal)) (G : Vec Ideal S16384x64 .f32)
    (hG : ∀ R l, G (ix2 R l) = (Row.soft (33554432 / 13421773) (w R) l : EReal)) : (dats m 0 c).arrAt 3 cfg0.N = G := by
  refine (dats m 0 c).arrAt_eq_of_cover 3 G (fun t _ => ?_) fun i => ⟨pointOf (i 0), flush0_3 _, ?_⟩
  · rw [Value.flushed3, out3]
    funext j
    rw [View.read_apply]
    obtain ⟨r, l, rfl⟩ : ∃ (r : Fin 1024) (l : Fin 64), j = ix2 r l := ⟨j 0, j 1, eq_ix2 j⟩
    have e : ((cfg0.win 3).blk t).view.emb (ix2 r l) = (ix2 (rowAt t r) l : S16384x64.Idx) := by
      funext a
      apply Fin.ext
      match a with
      | ⟨0, _⟩ => show win0_3.index t 0 * 1024 + 1 * r.val = t.val * 1024 + r.val; rw [(places t).2.2.2.2.2.2.1]; omega
      | ⟨1, _⟩ => show win0_3.index t 1 * 64 + 1 * l.val = l.val; rw [(places t).2.2.2.2.2.2.2.1]; omega
    rw [e]
    show k0_pay2 (k0_pay3 (iblk m c 0 t) (iblk m c 1 t) (iblk m c 2 t)) (ix2 r l) = G (ix2 (rowAt t r) l)
    rw [hG]
    exact Block.soft_at _ r (w (rowAt t r)) (fun x => by rw [logit_block hf, hw]) l
  · show i ∈ ((View.whole main_v18_0).slice (win0_3.rect (pointOf (i 0)))).set
    rw [View.set_slice_whole, Rect.mem_set_unit]
    intro a
    have h0 : (i 0 : ℕ) < 16384 := (i 0).isLt
    have h1 : (i 1 : ℕ) < 64 := (i 1).isLt
    match a with
    | ⟨0, _⟩ =>
      show win0_3.index (pointOf (i 0)) 0 * 1024 ≤ (i 0 : ℕ) ∧ (i 0 : ℕ) < win0_3.index (pointOf (i 0)) 0 * 1024 + 1024
      rw [(places _).2.2.2.2.2.2.1]
      show (i 0 : ℕ) / 1024 * 1024 ≤ (i 0 : ℕ) ∧ (i 0 : ℕ) < (i 0 : ℕ) / 1024 * 1024 + 1024
      omega
    | ⟨1, _⟩ =>
      show win0_3.index (pointOf (i 0)) 1 * 64 ≤ (i 1 : ℕ) ∧ (i 1 : ℕ) < win0_3.index (pointOf (i 0)) 1 * 64 + 64
      rw [(places _).2.2.2.2.2.2.2.1]
      omega

/-- The index array, where the noisy logits' rows have their greatest entries first at `k`. -/
theorem index_array (hf : Finds m c T W N) (k : Fin 16384 → Fin 64) (hk : ∀ R, Row.IsFirst (noisy T W N R) (k R)) (G : Vec Ideal S16384 .i32)
    (hG : ∀ R, G (ix1 R) = BitVec.ofNat 32 (k R)) : (dats m 0 c).arrAt 4 cfg0.N = G := by
  refine (dats m 0 c).arrAt_eq_of_cover 4 G (fun t _ => ?_) fun i => ⟨pointOf (i 0), flush0_4 _, ?_⟩
  · rw [Value.flushed4, out4]
    funext j
    rw [View.read_apply]
    obtain ⟨r, rfl⟩ : ∃ r : Fin 1024, j = ix1 r := ⟨j 0, eq_ix1 j⟩
    have e : ((cfg0.win 4).blk t).view.emb (ix1 r) = (ix1 (rowAt t r) : S16384.Idx) := by
      funext a
      apply Fin.ext
      match a with
      | ⟨0, _⟩ => show win0_4.index t 0 * 1024 + 1 * r.val = t.val * 1024 + r.val; rw [(places t).2.2.2.2.2.2.2.2]; omega
    rw [e]
    show k0_pay1 (k0_pay4 (iblk m c 0 t) (iblk m c 1 t) (iblk m c 2 t)) (ix1 r) = G (ix1 (rowAt t r))
    rw [hG]
    refine Block.index_at _ _ _ r ?_
    simp only [logit_block hf]
    exact hk _
  · show i ∈ ((View.whole main_v18_1).slice (win0_4.rect (pointOf (i 0)))).set
    rw [View.set_slice_whole, Rect.mem_set_unit]
    intro a
    have h0 : (i 0 : ℕ) < 16384 := (i 0).isLt
    match a with
    | ⟨0, _⟩ =>
      show win0_4.index (pointOf (i 0)) 0 * 1024 ≤ (i 0 : ℕ) ∧ (i 0 : ℕ) < win0_4.index (pointOf (i 0)) 0 * 1024 + 1024
      rw [(places _).2.2.2.2.2.2.2.2]
      show (i 0 : ℕ) / 1024 * 1024 ≤ (i 0 : ℕ) ∧ (i 0 : ℕ) < (i 0 : ℕ) / 1024 * 1024 + 1024
      omega

end Cert.KernelIdeal.Arrays

end
-- ==== Proof.RefValue.lean ====
/-
  The reference's results as terms: the softmax of the noisy logits (`soft`), the choice of a row's greatest entry
  (`first`), and the straight-through row whose greatest entry is chosen again (`index`), each read at an index.
-/
module

public import proofs.«01_k».proof.Proof.RefRun
public import proofs.«01_k».proof.Proof.Row

@[expose] public section

set_option maxRecDepth 16384
set_option Elab.async false

noncomputable section

namespace Cert.ReferenceIdeal.Value

open Idealize.ShloMosaic Idealize.ShloMosaic.StableHlo
open ReferenceIdeal ReferenceIdeal.Facts₀ ReferenceIdeal.Facts

/-! ### The softmax -/

/-- The noisy logits over the temperature. -/
def scaled (L G : FVec Ideal S16384x64 .f32) : FVec Ideal S16384x64 .f32 :=
  Host.divf (addf L G) (broadcastInDim S16384x64 ![] bcast_S_S16384x64 (constant S_ .f32 0x3ECCCCCD#32))

/-- Each row's greatest entry. -/
def peak (z : FVec Ideal S16384x64 .f32) : FVec Ideal S16384 .f32 :=
  Host.reduce FloatOps.maximumf z (constant S_ .f32 0xFF800000#32) reducesTo_S16384x64_S16384_d1 h_S_

/-- The exponentials, a row's `p` taken off first. -/
def expo (z : FVec Ideal S16384x64 .f32) (p : FVec Ideal S16384 .f32) : FVec Ideal S16384x64 .f32 :=
  Host.exp (subf z (broadcastInDim S16384x64 ![0, 1] bcast_S16384x1_S16384x64_0_1
    (broadcastInDim S16384x1 ![0] bcast_S16384_S16384x1_0
      (maximumf (broadcastInDim S16384 ![] bcast_S_S16384 (constant S_ .f32 0xFF800000#32)) p))))

/-- The exponentials over their rows' sums. -/
def share (e : FVec Ideal S16384x64 .f32) : FVec Ideal S16384x64 .f32 :=
  Host.divf e (broadcastInDim S16384x64 ![0, 1] bcast_S16384x1_S16384x64_0_1
    (broadcastInDim S16384x1 ![0] bcast_S16384_S16384x1_0
      (Host.reduceAdd e (constant S_ .f32 0x00000000#32) reducesTo_S16384x64_S16384_d1 h_S_)))

/-- The softmax of the scaled noisy logits. -/
def soft (z : FVec Ideal S16384x64 .f32) : FVec Ideal S16384x64 .f32 := share (expo z (peak z))

/-- The softmax operations leave the softmax of the scaled noisy logits. -/
theorem soft_eq (A : Valuation τ sig (Elt Ideal)) :
    after Line.softOps A (Proc.devRef .tc main_v32) = soft (scaled (A (Proc.devRef .tc main_v2)) (A (Proc.devRef .tc main_v18))) := by
  unfold Line.softOps
  after_results_simp
  rfl

/-- The scaled noisy logits at an index. -/
theorem scaled_at (L G : FVec Ideal S16384x64 .f32) (r : Fin 16384) (l : Fin 64) :
    scaled L G (ix2 r l) = Ideal.div (L (ix2 r l) + G (ix2 r l)) (Ideal.ofBits .f32 0x3ECCCCCD#32) := rfl

/-- A row's greatest entry, as a fold. -/
theorem peak_at (z : FVec Ideal S16384x64 .f32) (r : Fin 16384) :
    peak z (ix1 r) = Finset.fold max (Ideal.ofBits .f32 4286578688#32) (fun x => z (ix2 r x)) Finset.univ := by
  pointwise [peak]

/-- The exponentials at an index. -/
theorem expo_at (z : FVec Ideal S16384x64 .f32) (p : FVec Ideal S16384 .f32) (r : Fin 16384) (l : Fin 64) :
    expo z p (ix2 r l) = Ideal.exp (z (ix2 r l) - max (Ideal.ofBits .f32 4286578688#32) (p (ix1 r))) := by
  pointwise [expo]

/-- A row's share at an index. -/
theorem share_at (e : FVec Ideal S16384x64 .f32) (r : Fin 16384) (l : Fin 64) :
    share e (ix2 r l) = Ideal.div (e (ix2 r l)) (∑ x, e (ix2 r x)) := by
  pointwise [share]

/-- The softmax at an index. -/
theorem soft_at (z : FVec Ideal S16384x64 .f32) (r : Fin 16384) (l : Fin 64) :
    soft z (ix2 r l) =
      Ideal.div (Ideal.exp (z (ix2 r l) - max (Ideal.ofBits .f32 4286578688#32)
          (Finset.fold max (Ideal.ofBits .f32 4286578688#32) (fun x => z (ix2 r x)) Finset.univ)))
        (∑ y, Ideal.exp (z (ix2 r y) - max (Ideal.ofBits .f32 4286578688#32)
          (Finset.fold max (Ideal.ofBits .f32 4286578688#32) (fun x => z (ix2 r x)) Finset.univ))) := by
  have h := peak_at z r
  unfold soft
  generalize peak z = p at h ⊢
  rw [share_at]
  simp only [expo_at, h]

/-! ### The index -/

/-- The second entries of pairs. -/
def seconds (A : S16384.Idx → Ideal .f32 × BitVec 32) : IVec S16384 32 := fun j => (A j).2

/-- The second parts, at an index. -/
theorem seconds_at (A : S16384.Idx → Ideal .f32 × BitVec 32) (j : S16384.Idx) : seconds A j = (A j).2 := rfl

/-- The position of each row's greatest entry. -/
def first (x : FVec Ideal S16384x64 .f32) : IVec S16384 32 :=
  seconds (Host.argReduce reducer_argmax_f32_i32 x (iotaInDim S16384x64 32 1) (constant (F := Ideal) S_ .f32 0xFF800000#32) (constantI S_ 32 0#32)
    reducesTo_S16384x64_S16384_d1 h_S_)

/-- The one-hot rows at given positions. -/
def hot (i : IVec S16384 32) : FVec Ideal S16384x64 .f32 :=
  uitofp .f32 (cmpi .eq (broadcastInDim S16384x64 ![0, 1] bcast_S16384x1_S16384x64_0_1 (broadcastInDim S16384x1 ![0] bcast_S16384_S16384x1_0 i))
    (broadcastInDim S16384x64 ![0, 1] bcast_S1x64_S16384x64_0_1 (iotaInDim S1x64 32 1)))

/-- The index operations leave the position of the greatest entry of the straight-through array. -/
theorem index_eq (A : Valuation τ sig (Elt Ideal)) :
    after Line.indexOps A (Proc.devRef .tc main_v37) =
      first (addf (subf (hot (first (A (Proc.devRef .tc main_v32)))) (A (Proc.devRef .tc main_v32))) (A (Proc.devRef .tc main_v32))) := by
  unfold Line.indexOps
  after_results_simp
  simp only [TRef.ofBuf_toBuf]
  rfl

/-- The index operations keep the softmax. -/
theorem index_keeps (A : Valuation τ sig (Elt Ideal)) :
    after Line.indexOps A (Proc.devRef .tc main_v32) = A (Proc.devRef .tc main_v32) := by
  unfold Line.indexOps
  after_results_simp

/-- The one-hot array at an index. -/
theorem hot_at (i : IVec S16384 32) (r : Fin 16384) (l : Fin 64) :
    hot i (ix2 r l) = if i (ix1 r) = BitVec.ofNat 32 l then 1 else 0 := by
  have h : hot i (ix2 r l) = FloatOps.uitofp (F := Ideal) .f32 (IntOp.cmpi .eq (i (ix1 r)) (BitVec.ofNat 32 l)) := by
    pointwise [hot]
  have u (b : BitVec 1) : FloatOps.uitofp (F := Ideal) .f32 b = ((b.toNat : ℝ) : EReal) := rfl
  rw [h, u]
  by_cases e : i (ix1 r) = BitVec.ofNat 32 l
  · rw [if_pos e, e]
    simp [IntOp.cmpi]
  · rw [if_neg e]
    simp [IntOp.cmpi, e]

/-- The body of the choice, on extended reals: one of the two pairs, the one of the greater value, of the lesser index
    where the values are equal. -/
theorem pick (a b : Ideal .f32 × BitVec 32) :
    (reducer_argmax_f32_i32 (F := Ideal) a b = a ∨ reducer_argmax_f32_i32 (F := Ideal) a b = b) ∧
      a.1 ≤ (reducer_argmax_f32_i32 (F := Ideal) a b).1 ∧ b.1 ≤ (reducer_argmax_f32_i32 (F := Ideal) a b).1 ∧
      (a.1 = (reducer_argmax_f32_i32 (F := Ideal) a b).1 → (reducer_argmax_f32_i32 (F := Ideal) a b).2.toInt ≤ a.2.toInt) ∧
      (b.1 = (reducer_argmax_f32_i32 (F := Ideal) a b).1 → (reducer_argmax_f32_i32 (F := Ideal) a b).2.toInt ≤ b.2.toInt) := by
  obtain ⟨x, i⟩ := a
  obtain ⟨y, j⟩ := b
  have h : reducer_argmax_f32_i32 (F := Ideal) (x, i) (y, j) =
      if (y : EReal) < x then (x, i) else if x = y ∧ i.slt j then (y, i) else (y, j) := by
    unfold reducer_argmax_f32_i32
    simp only [Ideal.cmpf_def, Ideal.cmp, IntOp.cmpi, IntOp.ori, IntOp.andi, Scalar.select]
    by_cases h₁ : (y : EReal) < x
    · have h₂ : ¬x = y := h₁.ne'
      simp [h₁, h₂]
    · by_cases h₂ : (x : EReal) = y
      · by_cases h₃ : i.slt j <;> simp [h₁, h₂, h₃]
      · simp [h₁, h₂]
  rw [h]
  split_ifs with h₁ h₂
  · exact ⟨.inl rfl, le_rfl, h₁.le, fun _ => le_rfl, fun h => absurd h h₁.ne⟩
  · obtain ⟨rfl, h₂⟩ := h₂
    rw [BitVec.slt_iff_toInt_lt] at h₂
    exact ⟨.inl rfl, le_rfl, le_rfl, fun _ => le_rfl, fun _ => h₂.le⟩
  · refine ⟨.inr rfl, not_lt.mp h₁, le_rfl, fun h => ?_, fun _ => le_rfl⟩
    dsimp only at h ⊢
    by_contra hc
    exact h₂ ⟨h, BitVec.slt_iff_toInt_lt.mpr (not_le.mp hc)⟩

/-- The fold of the choice over a list: a pair of the list with the greatest value, of the least index among these. -/
theorem fold_pick : ∀ (l : List (Ideal .f32 × BitVec 32)) (a : Ideal .f32 × BitVec 32),
    (l.foldl (reducer_argmax_f32_i32 (F := Ideal)) a) ∈ a :: l ∧
      (∀ p ∈ a :: l, p.1 ≤ (l.foldl (reducer_argmax_f32_i32 (F := Ideal)) a).1) ∧
      ∀ p ∈ a :: l, p.1 = (l.foldl (reducer_argmax_f32_i32 (F := Ideal)) a).1 →
        (l.foldl (reducer_argmax_f32_i32 (F := Ideal)) a).2.toInt ≤ p.2.toInt
  | [], a => by simp
  | b :: l, a => by
    obtain ⟨hm, hv, hi⟩ := fold_pick l (reducer_argmax_f32_i32 (F := Ideal) a b)
    obtain ⟨h₀, h₁, h₂, h₃, h₄⟩ := pick a b
    rw [List.foldl_cons]
    generalize l.foldl (reducer_argmax_f32_i32 (F := Ideal)) (reducer_argmax_f32_i32 (F := Ideal) a b) = q at hm hv hi ⊢
    generalize reducer_argmax_f32_i32 (F := Ideal) a b = c at h₀ h₁ h₂ h₃ h₄ hm hv hi
    have hc := hv c (List.mem_cons_self ..)
    have hci := hi c (List.mem_cons_self ..)
    refine ⟨?_, ?_, ?_⟩
    · rcases List.mem_cons.mp hm with rfl | hm
      · rcases h₀ with h | h <;> simp [h]
      · simp [hm]
    · intro p hp
      rcases List.mem_cons.mp hp with rfl | hp
      · exact h₁.trans hc
      rcases List.mem_cons.mp hp with rfl | hp
      · exact h₂.trans hc
      · exact hv p (List.mem_cons_of_mem _ hp)
    · intro p hp he
      rcases List.mem_cons.mp hp with rfl | hp
      · have e := le_antisymm h₁ (hc.trans he.ge)
        exact (hci (e.symm.trans he)).trans (h₃ e)
      rcases List.mem_cons.mp hp with rfl | hp
      · have e := le_antisymm h₂ (hc.trans he.ge)
        exact (hci (e.symm.trans he)).trans (h₄ e)
      · exact hi p (List.mem_cons_of_mem _ hp) he

/-- The choice over a fiber, of whatever shapes: one of the fiber's pairs or the initial one, of the greatest value, of
    the least index among these. -/
theorem fiber_pick {s t u : Shape} {axes : List (Fin s.rank)} (x : FVec Ideal s .f32) (y : IVec s 32) (ix : FVec Ideal u .f32)
    (iy : IVec u 32) (h : s.ReducesTo axes t) (hu : 0 < u.numel) (j : t.Idx) :
    ((Host.argReduce (reducer_argmax_f32_i32 (F := Ideal)) x y ix iy h hu j = (ix (Shape.Idx.first hu), iy (Shape.Idx.first hu))) ∨
        ∃ i, h.drop i = j ∧ Host.argReduce (reducer_argmax_f32_i32 (F := Ideal)) x y ix iy h hu j = (x i, y i)) ∧
      ∀ i, h.drop i = j → x i ≤ (Host.argReduce (reducer_argmax_f32_i32 (F := Ideal)) x y ix iy h hu j).1 ∧
        (x i = (Host.argReduce (reducer_argmax_f32_i32 (F := Ideal)) x y ix iy h hu j).1 →
          (Host.argReduce (reducer_argmax_f32_i32 (F := Ideal)) x y ix iy h hu j).2.toInt ≤ (y i).toInt) := by
  rw [Ideal.argReduce_eq_reduce2]
  unfold Host.reduce2
  have e := List.foldl_map (f := fun n => ((x (s.rowMajor.symm n) : Ideal .f32), y (s.rowMajor.symm n)))
    (g := reducer_argmax_f32_i32 (F := Ideal)) (l := (List.finRange s.numel).filter fun n => h.drop (s.rowMajor.symm n) = j)
    (init := (ix (Shape.Idx.first hu), iy (Shape.Idx.first hu)))
  rw [← e]
  have hmem (p : Ideal .f32 × BitVec 32) : p ∈ ((List.finRange s.numel).filter fun n => h.drop (s.rowMajor.symm n) = j).map
      (fun n => ((x (s.rowMajor.symm n) : Ideal .f32), y (s.rowMajor.symm n))) ↔ ∃ i, h.drop i = j ∧ p = (x i, y i) := by
    simp only [List.mem_map, List.mem_filter, List.mem_finRange, true_and, decide_eq_true_eq]
    constructor
    · rintro ⟨a, h, rfl⟩
      exact ⟨_, h, rfl⟩
    · rintro ⟨i, h, rfl⟩
      exact ⟨s.rowMajor i, by rwa [Equiv.symm_apply_apply], by rw [Equiv.symm_apply_apply]⟩
  generalize ((List.finRange s.numel).filter fun n => h.drop (s.rowMajor.symm n) = j).map
      (fun n => ((x (s.rowMajor.symm n) : Ideal .f32), y (s.rowMajor.symm n))) = L at hmem ⊢
  obtain ⟨hm, hv, hi⟩ := fold_pick L (ix (Shape.Idx.first hu), iy (Shape.Idx.first hu))
  generalize L.foldl (reducer_argmax_f32_i32 (F := Ideal)) (ix (Shape.Idx.first hu), iy (Shape.Idx.first hu)) = q at hm hv hi ⊢
  constructor
  · rcases List.mem_cons.mp hm with h | h
    · exact .inl h
    · exact .inr ((hmem _).mp h)
  · intro i h
    have hp := List.mem_cons_of_mem (ix (Shape.Idx.first hu), iy (Shape.Idx.first hu)) ((hmem _).mpr ⟨i, h, rfl⟩)
    exact ⟨hv _ hp, hi _ hp⟩

/-- The entries of a row are those whose first coordinate is the row. -/
theorem drop_eq (r : Fin 16384) (i : S16384x64.Idx) :
    (reducesTo_S16384x64_S16384_d1 : S16384x64.ReducesTo [1] S16384).drop i = ix1 r ↔ i 0 = r := by
  have h : ((reducesTo_S16384x64_S16384_d1 : S16384x64.ReducesTo [1] S16384).drop i 0 : ℕ) = i 0 :=
    Shape.ReducesTo.drop_apply_val_of_eq _ i 0 0
  constructor
  · intro e
    rw [e] at h
    exact Fin.ext h.symm
  · intro e
    funext b
    have hb : b = 0 := Subsingleton.elim _ _
    subst hb
    exact Fin.ext (h.trans (congrArg Fin.val e))

/-- The chosen position is the first of the row's greatest entry, for a row of reals. -/
theorem first_at (x : FVec Ideal S16384x64 .f32) (r : Fin 16384) (hx : ∀ l : Fin 64, (⊥ : EReal) < x (ix2 r l)) {k : Fin 64}
    (hk : Row.IsFirst (fun l => x (ix2 r l)) k) : first x (ix1 r) = BitVec.ofNat 32 k := by
  have hq := fiber_pick x (iotaInDim S16384x64 32 1) (constant (F := Ideal) S_ .f32 0xFF800000#32) (constantI S_ 32 0#32)
    (reducesTo_S16384x64_S16384_d1 : S16384x64.ReducesTo [1] S16384) h_S_ (ix1 r)
  unfold first
  generalize Host.argReduce reducer_argmax_f32_i32 x (iotaInDim S16384x64 32 1) (constant (F := Ideal) S_ .f32 0xFF800000#32) (constantI S_ 32 0#32)
    (reducesTo_S16384x64_S16384_d1 : S16384x64.ReducesTo [1] S16384) h_S_ = A at hq ⊢
  rw [seconds_at]
  generalize A (ix1 r) = q at hq ⊢
  obtain ⟨hm, hv⟩ := hq
  obtain ⟨hkq, hki⟩ := hv (ix2 r k) ((drop_eq r _).mpr rfl)
  have hbot : (⊥ : EReal) < q.1 := lt_of_lt_of_le (hx k) hkq
  rcases hm with rfl | ⟨i, hd, rfl⟩
  · exact absurd (hbot.trans_eq Row.ofBits_neg_inf) (lt_irrefl _)
  obtain ⟨p, l, rfl⟩ : ∃ (p : Fin 16384) (l : Fin 64), i = ix2 p l := ⟨i 0, i 1, eq_ix2 i⟩
  obtain rfl : p = r := (drop_eq r _).mp hd
  have e : x (ix2 p l) = x (ix2 p k) := le_antisymm (hk.1 l) hkq
  have h₁ := hk.2 l e
  have h₂ : (BitVec.ofNat 32 l.val).toInt ≤ (BitVec.ofNat 32 k.val).toInt := hki e.symm
  have h₃ (a : Fin 64) : (BitVec.ofNat 32 a.val).toInt = a.val := by revert a; decide
  rw [h₃, h₃] at h₂
  have : l = k := Fin.ext (by have := Fin.le_def.mp h₁; omega)
  rw [← this]
  rfl

end Cert.ReferenceIdeal.Value

end
-- ==== Proof.RefRow.lean ====
/-
  The reference's two results row by row: the softmax of the noisy logits, and the first position of a row's greatest one.
-/
module

public import proofs.«01_k».proof.Proof.RefValue

@[expose] public section

set_option maxRecDepth 16384
set_option Elab.async false

noncomputable section

namespace Cert.ReferenceIdeal.Value

open Idealize.ShloMosaic Idealize.ShloMosaic.StableHlo
open ReferenceIdeal ReferenceIdeal.Facts₀ ReferenceIdeal.Facts

/-- A logit: token `R`'s row of `x` times row `l` of the weights. -/
def logits (x : FVec Ideal S4x4096x4096 .f32) (W : FVec Ideal S64x4096 .f32) (R : Fin 16384) (l : Fin 64) : EReal :=
  ∑ k : Fin 4096, x (ix3 (⟨R.val / 4096, by omega⟩ : Fin 4) (⟨R.val % 4096, by omega⟩ : Fin 4096) k) * W (ix2 l k)

/-- A sum of reals is the same among the extended reals. -/
theorem coe_sum {n : ℕ} (f : Fin n → ℝ) : (∑ k, ((f k : ℝ) : EReal)) = ((∑ k, f k : ℝ) : EReal) := by
  induction (Finset.univ : Finset (Fin n)) using Finset.cons_induction with
  | empty => simp
  | cons a s ha ih => rw [Finset.sum_cons, Finset.sum_cons, ih, EReal.coe_add]

/-- Over real tokens and weights a logit is real. -/
theorem logits_real {x : FVec Ideal S4x4096x4096 .f32} {W : FVec Ideal S64x4096 .f32} (hx : ∀ i, ∃ r : ℝ, x i = (r : EReal))
    (hW : ∀ i, ∃ r : ℝ, W i = (r : EReal)) (R : Fin 16384) (l : Fin 64) : ∃ r : ℝ, logits x W R l = (r : EReal) := by
  choose f hf using hx
  choose g hg using hW
  refine ⟨∑ k : Fin 4096, f (ix3 (⟨R.val / 4096, by omega⟩ : Fin 4) (⟨R.val % 4096, by omega⟩ : Fin 4096) k) * g (ix2 l k), ?_⟩
  unfold logits
  simp only [hf, hg, ← EReal.coe_mul]
  exact coe_sum _

/-- The reference's logits are those. -/
theorem logits_at (A : Valuation τ sig (Elt Ideal)) (R : Fin 16384) (l : Fin 64) :
    (after Line.logitsOps A (Proc.devRef .tc main_v2) : FVec Ideal S16384x64 .f32) (ix2 R l) =
      logits (A (Proc.devRef .tc main_arg0)) (A (Proc.devRef .tc main_arg1)) R l := by
  unfold Line.logitsOps logits
  after_results_simp
  pointwise

/-- The temperature's word is the float nearest two fifths. -/
theorem temperature : Ideal.ofBits .f32 0x3ECCCCCD#32 = ((13421773 / 33554432 : ℝ) : EReal) := by
  show Ideal.ieee 8 23 (0x3ECCCCCD#32) = _
  simp [Ideal.ieee]
  rw [← EReal.coe_mul]
  norm_num

/-- The softmax at an index, where the noisy logits are the reals `w`. -/
theorem soft_row (L G : FVec Ideal S16384x64 .f32) (R : Fin 16384) (w : Fin 64 → ℝ)
    (hw : ∀ l, L (ix2 R l) + G (ix2 R l) = (w l : EReal)) (l : Fin 64) :
    soft (scaled L G) (ix2 R l) = (Row.soft (33554432 / 13421773) w l : EReal) := by
  rw [soft_at]
  simp only [scaled_at, hw, temperature]
  exact Row.reference_soft _ _ (by norm_num) (by norm_num) w l

/-- The position of the straight-through row's greatest entry is that of the softmax's. -/
theorem index_row (y : FVec Ideal S16384x64 .f32) (R : Fin 16384) (f : Fin 64 → ℝ) (hf : ∀ l, y (ix2 R l) = (f l : EReal)) {k : Fin 64}
    (hk : Row.IsFirst (fun l => (f l : EReal)) k) : first (addf (subf (hot (first y)) y) y) (ix1 R) = BitVec.ofNat 32 k := by
  have h : first y (ix1 R) = BitVec.ofNat 32 k :=
    first_at y R (fun l => by rw [hf]; exact EReal.bot_lt_coe _) (by simp only [hf]; exact hk)
  have hb (l : Fin 64) : BitVec.ofNat 32 k = BitVec.ofNat 32 l ↔ l = k := by revert l; generalize k = a; revert a; decide
  have hv (l : Fin 64) : addf (subf (hot (first y)) y) y (ix2 R l) = ((if l = k then (1 : EReal) else 0) - (f l : EReal)) + (f l : EReal) := by
    show (hot (first y) (ix2 R l) - y (ix2 R l)) + y (ix2 R l) = _
    rw [hot_at, h, hf]
    simp only [hb]
  refine first_at _ R (fun l => ?_) ?_
  · rw [hv]
    have e : (if l = k then (1 : EReal) else 0) = ((if l = k then (1 : ℝ) else 0 : ℝ) : EReal) := by split <;> simp
    rw [e, ← EReal.coe_sub, ← EReal.coe_add]
    exact EReal.bot_lt_coe _
  · simp only [hv]
    exact Row.hard_first f k

/-- The reference's results, where the noisy logits are the reals `w`, whose rows have their greatest entries first at `k`. -/
theorem results (V : Valuation τ sig (Elt Ideal)) (w : Fin 16384 → Fin 64 → ℝ)
    (hw : ∀ R l, logits (V (Proc.devRef .tc main_arg0)) (V (Proc.devRef .tc main_arg1)) R l +
      (after Line.noiseOps (after Line.logitsOps V) (Proc.devRef .tc main_v18) : FVec Ideal S16384x64 .f32) (ix2 R l) = (w R l : EReal))
    (k : Fin 16384 → Fin 64) (hk : ∀ R, Row.IsFirst (fun l => (w R l : EReal)) (k R)) :
    (∀ R l, (after Line.ops V (Proc.devRef .tc main_v32) : FVec Ideal S16384x64 .f32) (ix2 R l) = (Row.soft (33554432 / 13421773) (w R) l : EReal)) ∧
      ∀ R, (after Line.ops V (Proc.devRef .tc main_v37) : IVec S16384 32) (ix1 R) = BitVec.ofNat 32 (k R) := by
  have e : (after Line.noiseOps (after Line.logitsOps V) (Proc.devRef .tc main_v2) : FVec Ideal S16384x64 .f32) =
      after Line.logitsOps V (Proc.devRef .tc main_v2) := by
    unfold Line.noiseOps
    exact Tape.right_keep (n := 4) (by decide) Host.steps 4 _ Host.steps_ok (by decide)
  have hl := logits_at V
  unfold Line.ops
  rw [after_append, after_append, after_append, index_keeps, index_eq, soft_eq, e]
  generalize (after Line.logitsOps V (Proc.devRef .tc main_v2) : FVec Ideal S16384x64 .f32) = L at hl
  generalize (after Line.noiseOps (after Line.logitsOps V) (Proc.devRef .tc main_v18) : FVec Ideal S16384x64 .f32) = G at hw
  have hs (R : Fin 16384) (l : Fin 64) : soft (scaled L G) (ix2 R l) = (Row.soft (33554432 / 13421773) (w R) l : EReal) :=
    soft_row L G R (w R) (fun l => by rw [hl, hw]) l
  exact ⟨hs, fun R => index_row _ R (Row.soft (33554432 / 13421773) (w R)) (hs R) (Row.soft_first (by norm_num) (hk R))⟩

end Cert.ReferenceIdeal.Value

end
-- ==== Proof.Equal.lean ====
/-
  The two programs' results are equal: over finite tokens and weights both rows of noisy logits are the same reals, of
  which each program gives the softmax and the first greatest position.
-/
module

public import proofs.«01_k».proof.Defs
public import proofs.«01_k».proof.Proof.Region
public import proofs.«01_k».proof.Proof.Noise
public import proofs.«01_k».proof.Proof.Arrays
public import proofs.«01_k».proof.Proof.RefRow
public import proofs.«01_k».proof.Proof.Gen.Pre_finite

@[expose] public section

set_option maxRecDepth 16384
set_option Elab.async false

noncomputable section

namespace Cert.Equal

open Idealize.ShloMosaic Idealize.ShloMosaic.StableHlo
open KernelIdeal KernelIdeal.Facts₀ KernelIdeal.Facts

/-- An extended real whose magnitude is below the infinity's word is a real. -/
theorem real_of_below {a : EReal} (h : FloatOps.cmpf (F := Ideal) (φ := .f32) .olt (max a (-a)) (Ideal.ofBits .f32 0x7F800000#32) = 1#1) :
    ∃ r : ℝ, a = (r : EReal) := by
  rw [show Ideal.ofBits .f32 0x7F800000#32 = ⊤ from Row.ofBits_top, Ideal.cmpf_def] at h
  induction a with
  | bot => simp [Ideal.cmp] at h
  | top => simp [Ideal.cmp] at h
  | coe r => exact ⟨r, rfl⟩

/-- The precondition says the tokens are reals. -/
theorem tokens_real {x : FVec Ideal S4x4096x4096 .f32} {W : FVec Ideal S64x4096 .f32}
    (h : (Pre_finite.fn (F := Ideal) x W).1 = fun _ => 1#1) (i : S4x4096x4096.Idx) : ∃ r : ℝ, x i = (r : EReal) :=
  real_of_below (congrFun h i)

/-- The precondition says the weights are reals. -/
theorem weights_real {x : FVec Ideal S4x4096x4096 .f32} {W : FVec Ideal S64x4096 .f32}
    (h : (Pre_finite.fn (F := Ideal) x W).2 = fun _ => 1#1) (i : S64x4096.Idx) : ∃ r : ℝ, W i = (r : EReal) :=
  real_of_below (congrFun h i)

/-- The tokens as rows, at an index. -/
theorem rows_at (x : FVec Ideal S4x4096x4096 .f32) (h : S4x4096x4096.ShapeCasts S16384x4096) (R : Fin 16384) (k : Fin 4096) :
    shapeCast S16384x4096 x h (ix2 R k) =
      x (ix3 (⟨R.val / 4096, by omega⟩ : Fin 4) (⟨R.val % 4096, by omega⟩ : Fin 4096) k) := by
  pointwise

/-- The weights transposed, at an index. -/
theorem columns_at (W : FVec Ideal S64x4096 .f32) (h : S64x4096.Transposes [1, 0] S4096x64) (k : Fin 4096) (l : Fin 64) :
    transpose S4096x64 [1, 0] W h (ix2 k l) = W (ix2 l k) := by
  pointwise

/-- The kernel's noisy logits are the reference's logits and the noise. -/
theorem noisy_eq (x : FVec Ideal S4x4096x4096 .f32) (W : FVec Ideal S64x4096 .f32) (N : FVec Ideal S16384x64 .f32)
    (h : S4x4096x4096.ShapeCasts S16384x4096) (h' : S64x4096.Transposes [1, 0] S4096x64) (R : Fin 16384) (l : Fin 64) :
    Arrays.noisy (shapeCast S16384x4096 x h) (transpose S4096x64 [1, 0] W h') N R l = ReferenceIdeal.Value.logits x W R l + N (ix2 R l) := by
  unfold Arrays.noisy ReferenceIdeal.Value.logits
  exact congrArg (· + N (ix2 R l)) (Finset.sum_congr rfl fun k _ => congr (congrArg HMul.hMul (rows_at x h R k)) (columns_at W h' k l))

variable (m : (ℓ : Loc nD τ sig) → Buf (Elt Ideal) ℓ) (c : Dev nD)

/-- Equal buffers have equal contents where the region is entered. -/
theorem entry_of_ref {b b' : Ref sig .tc} (h : b = b') : HEq (Gen.V m c b) (Gen.V m c b') := by subst h; rfl

/-- What the region finds in its input arrays. -/
theorem finds (U : Valuation ReferenceIdeal.τ ReferenceIdeal.sig (Elt Ideal)) : Arrays.Finds m c
    (shapeCast S16384x4096 (m ((c.tc : Thread nD τ).loc main_arg0) : (⟨S4x4096x4096, .f32⟩ : BufTy).Contents (Elt Ideal)) shapeCasts_S4x4096x4096_S16384x4096)
    (transpose S4096x64 [1, 0] (m ((c.tc : Thread nD τ).loc main_arg1) : (⟨S64x4096, .f32⟩ : BufTy).Contents (Elt Ideal)) transposes_S64x4096_S4096x64_1_0)
    (after ReferenceIdeal.Line.noiseOps U (Proc.devRef .tc ReferenceIdeal.main_v18)) where
  h0 t := by
    have e : (Gen.V m c (Pipeline.arrRef spec0 0) : (⟨S16384x4096, .f32⟩ : BufTy).Contents (Elt Ideal)) = _ :=
      (eq_of_heq (entry_of_ref m c (b' := main_v0) rfl)).trans (Region.tokens m c)
    unfold Gen.iblk
    exact congrArg (((cfg0.win 0).blk t).view.read (Elt Ideal)) e
  h1 t := by
    have e : (Gen.V m c (Pipeline.arrRef spec0 1) : (⟨S4096x64, .f32⟩ : BufTy).Contents (Elt Ideal)) = _ :=
      (eq_of_heq (entry_of_ref m c (b' := main_v1) rfl)).trans (Region.weights m c)
    unfold Gen.iblk
    exact congrArg (((cfg0.win 1).blk t).view.read (Elt Ideal)) e
  h2 t := by
    have e : (Gen.V m c (Pipeline.arrRef spec0 2) : (⟨S16384x64, .f32⟩ : BufTy).Contents (Elt Ideal)) = _ :=
      (eq_of_heq (entry_of_ref m c (b' := main_v17) rfl)).trans (Region.noise m c U)
    unfold Gen.iblk
    exact congrArg (((cfg0.win 2).blk t).view.read (Elt Ideal)) e

/-- The kernel's arrays end as the reference's results, from memories that agree on the arguments. -/
theorem arrays_eq (x : FVec Ideal S4x4096x4096 .f32) (W : FVec Ideal S64x4096 .f32)
    (hx : m ((c.tc : Thread nD τ).loc main_arg0) = x) (hW : m ((c.tc : Thread nD τ).loc main_arg1) = W)
    (h₀ : (Pre_finite.fn (F := Ideal) x W).1 = fun _ => 1#1) (h₁ : (Pre_finite.fn (F := Ideal) x W).2 = fun _ => 1#1)
    (V : Valuation ReferenceIdeal.τ ReferenceIdeal.sig (Elt Ideal)) (hVx : V (Proc.devRef .tc ReferenceIdeal.main_arg0) = x)
    (hVW : V (Proc.devRef .tc ReferenceIdeal.main_arg1) = W)
    (y : (⟨S16384x64, .f32⟩ : BufTy).Contents (Elt Ideal)) (hy : after ReferenceIdeal.Line.ops V (Proc.devRef .tc ReferenceIdeal.main_v32) = y)
    (i : (⟨S16384, .i32⟩ : BufTy).Contents (Elt Ideal)) (hi : after ReferenceIdeal.Line.ops V (Proc.devRef .tc ReferenceIdeal.main_v37) = i) :
    (Gen.dats m 0 c).arrAt 3 cfg0.N = y ∧ (Gen.dats m 0 c).arrAt 4 cfg0.N = i := by
  have hf := finds m c (after ReferenceIdeal.Line.logitsOps V)
  have hN := ReferenceIdeal.Noise.noise_real (after ReferenceIdeal.Line.logitsOps V)
  have hR := ReferenceIdeal.Value.results V
  rw [hx, hW] at hf
  rw [hVx, hVW, hy, hi] at hR
  generalize (after ReferenceIdeal.Line.noiseOps (after ReferenceIdeal.Line.logitsOps V) (Proc.devRef .tc ReferenceIdeal.main_v18) : FVec Ideal S16384x64 .f32) = N at hf hN hR
  have hw (R : Fin 16384) (l : Fin 64) : ∃ w : ℝ, ReferenceIdeal.Value.logits x W R l + N (ix2 R l) = (w : EReal) := by
    obtain ⟨a, ha⟩ := ReferenceIdeal.Value.logits_real (tokens_real h₀) (weights_real h₁) R l
    obtain ⟨b, hb⟩ := hN (ix2 R l)
    exact ⟨a + b, by rw [ha, hb, EReal.coe_add]⟩
  choose w hw using hw
  have hk (R : Fin 16384) : ∃ k, Row.IsFirst (fun l => (w R l : EReal)) k := Row.exists_first _
  choose k hk using hk
  obtain ⟨hs, hj⟩ := hR w hw k hk
  refine ⟨Arrays.soft_array hf w (fun R l => by rw [noisy_eq, hw]) y hs, Arrays.index_array hf k (fun R => ?_) i hj⟩
  have e : Arrays.noisy _ _ N R = fun l => (w R l : EReal) := funext fun l => (noisy_eq x W N shapeCasts_S4x4096x4096_S16384x4096 transposes_S64x4096_S4096x64_1_0 R l).trans (hw R l)
  rw [e]
  exact hk R

/-- The two programs end with equal results. -/
theorem algebraic : Cert.algebraic_KernelIdeal_ReferenceIdeal_pre_finite := by
  intro m g m' g' hpre hagree
  have key (c : Dev nD) := arrays_eq m c _ _ rfl rfl (hpre c).1 (hpre c).2 (launchContents m' c) (hagree c).1 (hagree c).2 _ rfl _ rfl
  refine ⟨fun c => after ReferenceIdeal.Line.ops (launchContents m' c) (Proc.devRef .tc ReferenceIdeal.main_v37),
    fun c => after ReferenceIdeal.Line.ops (launchContents m' c) (Proc.devRef .tc ReferenceIdeal.main_v32), ?_, ?_⟩
  · exact θ_run_mono (Value.run_blocks m g) fun r h c => ⟨(h c).2.1.trans (key c).2, (h c).1.trans (key c).1, (h c).2.2.1, (h c).2.2.2⟩
  · exact θ_run_mono (ReferenceIdeal.Line.run m' g') fun r h c => ⟨h c _, h c _, (h c _).trans (ReferenceIdeal.Line.kept0 _),
      (h c _).trans (ReferenceIdeal.Line.kept1 _)⟩

end Cert.Equal

end
-- ==== Proof.lean ====
/-
  `Cert.Claim`, put together from its parts: the frames of the three programs, the named constant, and the equality of
  the results (Proof/Equal.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.RefRun
public import proofs.«01_k».proof.Proof.Equal

@[expose] public section

noncomputable section

namespace Cert.Proof

open Idealize.ShloMosaic

/-- The kernel's factor 2.5 is the rounding of the reciprocal of the reference's divisor. -/
theorem factor : Cert.preserves_Kernel_KernelIdeal := IdealRules.named_const.statement _ _ _ _ _ rfl

/-- All the claims hold. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => Cert.ReferenceIdeal.Line.frame m g,
    fun m g _ => Cert.ReferenceIdeal.Line.frame m g,
    factor,
    Cert.Equal.algebraic⟩

end Cert.Proof

end
